-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x256x48x192 : Shape := ⟨4, ![1, 256, 48, 192]⟩
abbrev S1x4x2x128x48x192 : Shape := ⟨6, ![1, 4, 2, 128, 48, 192]⟩
abbrev S1x4x2x128x48 : Shape := ⟨5, ![1, 4, 2, 128, 48]⟩
abbrev S_ : Shape := ⟨0, ![]⟩

class Facts : Prop where
  bcast_S_S1x256x48x192 : S_.BroadcastsInDim S1x256x48x192 (![] : Fin 0 → Fin S1x256x48x192.rank)
  reducesTo_S1x256x48x192_S_d0_1_2_3 : S1x256x48x192.ReducesTo [0, 1, 2, 3] S_
  h_S_ : 0 < S_.numel

variable [Facts]

def fn {F : FTy → Type} [FloatOps F] (main_arg0 : FVec F S1x256x48x192 .bf16) (main_arg1 : FVec F S1x4x2x128x48x192 .fp8e4m3) (main_arg2 : FVec F S1x4x2x128x48 .f32) (main_arg3 : FVec F S1x4x2x128x48x192 .fp8e4m3) (main_arg4 : FVec F S1x4x2x128x48 .f32) : IVec S_ 1 :=
  let main_v0 : FVec F S1x256x48x192 .bf16 := Host.absf main_arg0
  let main_cst : FVec F S_ .bf16 := constant S_ .bf16 0x7F7F#16
  let main_v1 : FVec F S1x256x48x192 .bf16 := broadcastInDim S1x256x48x192 ![] bcast_S_S1x256x48x192 main_cst
  let main_v2 : IVec S1x256x48x192 1 := cmpf .ole main_v0 main_v1
  let main_c : IVec S_ 1 := constantI S_ 1 1#1
  let main_v3 : IVec S_ 1 := (fun x v => Host.reduce IntOp.andi x v reducesTo_S1x256x48x192_S_d0_1_2_3 h_S_) main_v2 main_c
  main_v3
-- ==== Kernel.lean ====
abbrev S1x256x48x192 : Shape := ⟨4, ![1, 256, 48, 192]⟩
abbrev S1x4x2x128x48x192 : Shape := ⟨6, ![1, 4, 2, 128, 48, 192]⟩
abbrev S1x4x2x128x48 : Shape := ⟨5, ![1, 4, 2, 128, 48]⟩
abbrev S256x48x192 : Shape := ⟨3, ![256, 48, 192]⟩
abbrev S48x192x256 : Shape := ⟨3, ![48, 192, 256]⟩
abbrev S4x2x128x48x192 : Shape := ⟨5, ![4, 2, 128, 48, 192]⟩
abbrev S4x2x48x192x128 : Shape := ⟨5, ![4, 2, 48, 192, 128]⟩
abbrev S4x2x128x48 : Shape := ⟨4, ![4, 2, 128, 48]⟩
abbrev S4x2x48x128 : Shape := ⟨4, ![4, 2, 48, 128]⟩
abbrev S256x9216 : Shape := ⟨2, ![256, 9216]⟩
abbrev S48x256 : Shape := ⟨2, ![48, 256]⟩
abbrev S4x192x256 : Shape := ⟨3, ![4, 192, 256]⟩
abbrev S4x2x4x192x128 : Shape := ⟨5, ![4, 2, 4, 192, 128]⟩
abbrev S256x768 : Shape := ⟨2, ![256, 768]⟩
abbrev S64x128 : Shape := ⟨2, ![64, 128]⟩
abbrev S1x1x1x128 : Shape := ⟨4, ![1, 1, 1, 128]⟩
abbrev S1x128 : Shape := ⟨2, ![1, 128]⟩
abbrev S1x256 : Shape := ⟨2, ![1, 256]⟩
abbrev S1x192x256 : Shape := ⟨3, ![1, 192, 256]⟩
abbrev S192x256 : Shape := ⟨2, ![192, 256]⟩
abbrev S1x1x1x192x128 : Shape := ⟨5, ![1, 1, 1, 192, 128]⟩
abbrev S192x128 : Shape := ⟨2, ![192, 128]⟩
abbrev S256 : Shape := ⟨1, ![256]⟩
abbrev S64x256 : Shape := ⟨2, ![64, 256]⟩
abbrev S256x256 : Shape := ⟨2, ![256, 256]⟩
abbrev S128x256 : Shape := ⟨2, ![128, 256]⟩
abbrev S256x128 : Shape := ⟨2, ![256, 128]⟩
abbrev S96x256 : Shape := ⟨2, ![96, 256]⟩
abbrev S32x256 : Shape := ⟨2, ![32, 256]⟩
abbrev S8x256 : Shape := ⟨2, ![8, 256]⟩
abbrev S8 : Shape := ⟨1, ![8]⟩
abbrev S8x1 : Shape := ⟨2, ![8, 1]⟩
abbrev S16x256 : Shape := ⟨2, ![16, 256]⟩
abbrev S56x256 : Shape := ⟨2, ![56, 256]⟩
abbrev S64 : Shape := ⟨1, ![64]⟩
abbrev S64x1 : Shape := ⟨2, ![64, 1]⟩
abbrev S80x256 : Shape := ⟨2, ![80, 256]⟩
abbrev S64x384 : Shape := ⟨2, ![64, 384]⟩

abbrev nBuf : Space → Nat
  | .hbm => 18
  | .vmem => 13
  | .smem => 0
  | _ => 0

abbrev bufTy : (tb : Table) → Fin (tcTables nBuf tb) → BufTy
  | .hbm, ⟨0, _⟩ => ⟨S1x256x48x192, .bf16⟩
  | .hbm, ⟨1, _⟩ => ⟨S1x4x2x128x48x192, .fp8e4m3⟩
  | .hbm, ⟨2, _⟩ => ⟨S1x4x2x128x48, .f32⟩
  | .hbm, ⟨3, _⟩ => ⟨S1x4x2x128x48x192, .fp8e4m3⟩
  | .hbm, ⟨4, _⟩ => ⟨S1x4x2x128x48, .f32⟩
  | .hbm, ⟨5, _⟩ => ⟨S256x48x192, .bf16⟩
  | .hbm, ⟨6, _⟩ => ⟨S48x192x256, .bf16⟩
  | .hbm, ⟨7, _⟩ => ⟨S4x2x128x48x192, .fp8e4m3⟩
  | .hbm, ⟨8, _⟩ => ⟨S4x2x48x192x128, .fp8e4m3⟩
  | .hbm, ⟨9, _⟩ => ⟨S4x2x128x48x192, .fp8e4m3⟩
  | .hbm, ⟨10, _⟩ => ⟨S4x2x48x192x128, .fp8e4m3⟩
  | .hbm, ⟨11, _⟩ => ⟨S4x2x128x48, .f32⟩
  | .hbm, ⟨12, _⟩ => ⟨S4x2x48x128, .f32⟩
  | .hbm, ⟨13, _⟩ => ⟨S4x2x128x48, .f32⟩
  | .hbm, ⟨14, _⟩ => ⟨S4x2x48x128, .f32⟩
  | .hbm, ⟨15, _⟩ => ⟨S256x9216, .bf16⟩
  | .hbm, ⟨16, _⟩ => ⟨S48x192x256, .fp8e4m3⟩
  | .hbm, ⟨17, _⟩ => ⟨S48x256, .f32⟩
  | .local _ .vmem, ⟨0, _⟩ => ⟨S4x192x256, .bf16⟩
  | .local _ .vmem, ⟨1, _⟩ => ⟨S4x192x256, .bf16⟩
  | .local _ .vmem, ⟨2, _⟩ => ⟨S4x2x4x192x128, .fp8e4m3⟩
  | .local _ .vmem, ⟨3, _⟩ => ⟨S4x2x4x192x128, .fp8e4m3⟩
  | .local _ .vmem, ⟨4, _⟩ => ⟨S4x2x48x128, .f32⟩
  | .local _ .vmem, ⟨5, _⟩ => ⟨S4x2x4x192x128, .fp8e4m3⟩
  | .local _ .vmem, ⟨6, _⟩ => ⟨S4x2x4x192x128, .fp8e4m3⟩
  | .local _ .vmem, ⟨7, _⟩ => ⟨S4x2x48x128, .f32⟩
  | .local _ .vmem, ⟨8, _⟩ => ⟨S256x768, .bf16⟩
  | .local _ .vmem, ⟨9, _⟩ => ⟨S256x768, .bf16⟩
  | .local _ .vmem, ⟨10, _⟩ => ⟨S4x192x256, .fp8e4m3⟩
  | .local _ .vmem, ⟨11, _⟩ => ⟨S4x192x256, .fp8e4m3⟩
  | .local _ .vmem, ⟨12, _⟩ => ⟨S48x256, .f32⟩
  | _, _ => ⟨S1x256x48x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![12], ![false]⟩

def k0_off1 (i : grid0.Coords) (c0_i32 : BitVec 32) : Fin 4 → Nat :=
  let c0 : Index := 0#32
  let c0_0 : Index := 0#32
  let arg0 : BitVec 32 := BitVec.ofNat 32 (i 0).val
  let c4_i32 : BitVec 32 := 4#32
  let v1 : BitVec 32 := Scalar.muli arg0 c4_i32
  let v2 : BitVec 32 := Scalar.addi v1 c0_i32
  let v3 : Index := Scalar.indexCast v2
  let c0_1 : Index := 0#32
  ![0, 0, v3.toNat, 0]
def k0_off2 (i : grid0.Coords) (c0_i32 : BitVec 32) : Fin 4 → Nat :=
  let c0_2 : Index := 0#32
  let c1 : Index := 1#32
  let arg0 : BitVec 32 := BitVec.ofNat 32 (i 0).val
  let c4_i32 : BitVec 32 := 4#32
  let v1 : BitVec 32 := Scalar.muli arg0 c4_i32
  let v2 : BitVec 32 := Scalar.addi v1 c0_i32
  let v6 : Index := Scalar.indexCast v2
  let c0_3 : Index := 0#32
  ![0, 1, v6.toNat, 0]
def k0_off3 (i : grid0.Coords) (c0_i32 : BitVec 32) : Fin 4 → Nat :=
  let c1_4 : Index := 1#32
  let c0_5 : Index := 0#32
  let arg0 : BitVec 32 := BitVec.ofNat 32 (i 0).val
  let c4_i32 : BitVec 32 := 4#32
  let v1 : BitVec 32 := Scalar.muli arg0 c4_i32
  let v2 : BitVec 32 := Scalar.addi v1 c0_i32
  let v10 : Index := Scalar.indexCast v2
  let c0_6 : Index := 0#32
  ![1, 0, v10.toNat, 0]
def k0_off4 (i : grid0.Coords) (c0_i32 : BitVec 32) : Fin 4 → Nat :=
  let c1_7 : Index := 1#32
  let c1_8 : Index := 1#32
  let arg0 : BitVec 32 := BitVec.ofNat 32 (i 0).val
  let c4_i32 : BitVec 32 := 4#32
  let v1 : BitVec 32 := Scalar.muli arg0 c4_i32
  let v2 : BitVec 32 := Scalar.addi v1 c0_i32
  let v13 : Index := Scalar.indexCast v2
  let c0_9 : Index := 0#32
  ![1, 1, v13.toNat, 0]
def k0_off5 (i : grid0.Coords) (c0_i32 : BitVec 32) : Fin 4 → Nat :=
  let c2 : Index := 2#32
  let c0_10 : Index := 0#32
  let arg0 : BitVec 32 := BitVec.ofNat 32 (i 0).val
  let c4_i32 : BitVec 32 := 4#32
  let v1 : BitVec 32 := Scalar.muli arg0 c4_i32
  let v2 : BitVec 32 := Scalar.addi v1 c0_i32
  let v17 : Index := Scalar.indexCast v2
  let c0_11 : Index := 0#32
  ![2, 0, v17.toNat, 0]
def k0_off6 (i : grid0.Coords) (c0_i32 : BitVec 32) : Fin 4 → Nat :=
  let c2_12 : Index := 2#32
  let c1_13 : Index := 1#32
  let arg0 : BitVec 32 := BitVec.ofNat 32 (i 0).val
  let c4_i32 : BitVec 32 := 4#32
  let v1 : BitVec 32 := Scalar.muli arg0 c4_i32
  let v2 : BitVec 32 := Scalar.addi v1 c0_i32
  let v20 : Index := Scalar.indexCast v2
  let c0_14 : Index := 0#32
  ![2, 1, v20.toNat, 0]
def k0_off7 (i : grid0.Coords) (c0_i32 : BitVec 32) : Fin 4 → Nat :=
  let c3 : Index := 3#32
  let c0_15 : Index := 0#32
  let arg0 : BitVec 32 := BitVec.ofNat 32 (i 0).val
  let c4_i32 : BitVec 32 := 4#32
  let v1 : BitVec 32 := Scalar.muli arg0 c4_i32
  let v2 : BitVec 32 := Scalar.addi v1 c0_i32
  let v24 : Index := Scalar.indexCast v2
  let c0_16 : Index := 0#32
  ![3, 0, v24.toNat, 0]
def k0_off8 (i : grid0.Coords) (c0_i32 : BitVec 32) : Fin 4 → Nat :=
  let c3_17 : Index := 3#32
  let c1_18 : Index := 1#32
  let arg0 : BitVec 32 := BitVec.ofNat 32 (i 0).val
  let c4_i32 : BitVec 32 := 4#32
  let v1 : BitVec 32 := Scalar.muli arg0 c4_i32
  let v2 : BitVec 32 := Scalar.addi v1 c0_i32
  let v27 : Index := Scalar.indexCast v2
  let c0_19 : Index := 0#32
  ![3, 1, v27.toNat, 0]
def k0_off9 (i : grid0.Coords) (c0_i32 : BitVec 32) : Fin 2 → Nat :=
  let arg0 : BitVec 32 := BitVec.ofNat 32 (i 0).val
  let c4_i32 : BitVec 32 := 4#32
  let v1 : BitVec 32 := Scalar.muli arg0 c4_i32
  let v2 : BitVec 32 := Scalar.addi v1 c0_i32
  let v394 : Index := Scalar.indexCast v2
  let c0_177 : Index := 0#32
  ![v394.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x4x192x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2x48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x2x4x192x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x2x48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x192x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S48x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "scale_log2e" => some (((Real.sqrt 192)⁻¹ * (Real.log 2)⁻¹ : ℝ) : EReal)
  | _ => none
-- ==== ReferenceIdeal.lean ====
abbrev S1x256x48x192 : Shape := ⟨4, ![1, 256, 48, 192]⟩
abbrev S1x4x2x128x48x192 : Shape := ⟨6, ![1, 4, 2, 128, 48, 192]⟩
abbrev S1x4x2x128x48 : Shape := ⟨5, ![1, 4, 2, 128, 48]⟩
abbrev S_ : Shape := ⟨0, ![]⟩
abbrev S1x256x48 : Shape := ⟨3, ![1, 256, 48]⟩
abbrev S1x256x48x1 : Shape := ⟨4, ![1, 256, 48, 1]⟩
abbrev S1x193x48x192 : Shape := ⟨4, ![1, 193, 48, 192]⟩
abbrev S1x63x48x192 : Shape := ⟨4, ![1, 63, 48, 192]⟩
abbrev S1x193x48 : Shape := ⟨3, ![1, 193, 48]⟩
abbrev S1x63x48 : Shape := ⟨3, ![1, 63, 48]⟩
abbrev S1x4x64x48x192 : Shape := ⟨5, ![1, 4, 64, 48, 192]⟩
abbrev S1x4x64x48 : Shape := ⟨4, ![1, 4, 64, 48]⟩
abbrev S1x4x256x48x192 : Shape := ⟨5, ![1, 4, 256, 48, 192]⟩
abbrev S1x4x256x48 : Shape := ⟨4, ![1, 4, 256, 48]⟩
abbrev S1x4x48x256 : Shape := ⟨4, ![1, 4, 48, 256]⟩
abbrev S1x4x1x48x256 : Shape := ⟨5, ![1, 4, 1, 48, 256]⟩
abbrev S1x4x48x256x64 : Shape := ⟨5, ![1, 4, 48, 256, 64]⟩
abbrev S1x4x64x48x256 : Shape := ⟨5, ![1, 4, 64, 48, 256]⟩
abbrev S1x4x64x48x1 : Shape := ⟨5, ![1, 4, 64, 48, 1]⟩
abbrev S1x4x48x192x64 : Shape := ⟨5, ![1, 4, 48, 192, 64]⟩
abbrev S1x256x9216 : Shape := ⟨3, ![1, 256, 9216]⟩
abbrev S1x193x9216 : Shape := ⟨3, ![1, 193, 9216]⟩
abbrev S1x63x9216 : Shape := ⟨3, ![1, 63, 9216]⟩
abbrev S256x9216 : Shape := ⟨2, ![256, 9216]⟩
abbrev S256x48x192 : Shape := ⟨3, ![256, 48, 192]⟩
abbrev S48x192x256 : Shape := ⟨3, ![48, 192, 256]⟩
abbrev S256x48 : Shape := ⟨2, ![256, 48]⟩
abbrev S48x256 : Shape := ⟨2, ![48, 256]⟩

abbrev nBuf : Space → Nat
  | .hbm => 109
  | .vmem => 7
  | .smem => 0
  | _ => 0

abbrev bufTy : (tb : Table) → Fin (tcTables nBuf tb) → BufTy
  | .hbm, ⟨0, _⟩ => ⟨S1x256x48x192, .bf16⟩
  | .hbm, ⟨1, _⟩ => ⟨S1x4x2x128x48x192, .fp8e4m3⟩
  | .hbm, ⟨2, _⟩ => ⟨S1x4x2x128x48, .f32⟩
  | .hbm, ⟨3, _⟩ => ⟨S1x4x2x128x48x192, .fp8e4m3⟩
  | .hbm, ⟨4, _⟩ => ⟨S1x4x2x128x48, .f32⟩
  | .hbm, ⟨5, _⟩ => ⟨S_, .f32⟩
  | .hbm, ⟨6, _⟩ => ⟨S_, .f32⟩
  | .hbm, ⟨7, _⟩ => ⟨S1x256x48x192, .f32⟩
  | .hbm, ⟨8, _⟩ => ⟨S1x256x48x192, .f32⟩
  | .hbm, ⟨9, _⟩ => ⟨S_, .f32⟩
  | .hbm, ⟨10, _⟩ => ⟨S1x256x48, .f32⟩
  | .hbm, ⟨11, _⟩ => ⟨S_, .f32⟩
  | .hbm, ⟨12, _⟩ => ⟨S1x256x48, .f32⟩
  | .hbm, ⟨13, _⟩ => ⟨S1x256x48, .f32⟩
  | .hbm, ⟨14, _⟩ => ⟨S_, .f32⟩
  | .hbm, ⟨15, _⟩ => ⟨S1x256x48, .f32⟩
  | .hbm, ⟨16, _⟩ => ⟨S1x256x48, .i1⟩
  | .hbm, ⟨17, _⟩ => ⟨S1x256x48, .f32⟩
  | .hbm, ⟨18, _⟩ => ⟨S1x256x48, .f32⟩
  | .hbm, ⟨19, _⟩ => ⟨S1x256x48, .f32⟩
  | .hbm, ⟨20, _⟩ => ⟨S1x256x48, .f32⟩
  | .hbm, ⟨21, _⟩ => ⟨S_, .f32⟩
  | .hbm, ⟨22, _⟩ => ⟨S1x256x48, .f32⟩
  | .hbm, ⟨23, _⟩ => ⟨S1x256x48, .f32⟩
  | .hbm, ⟨24, _⟩ => ⟨S_, .f32⟩
  | .hbm, ⟨25, _⟩ => ⟨S_, .f32⟩
  | .hbm, ⟨26, _⟩ => ⟨S1x256x48, .f32⟩
  | .hbm, ⟨27, _⟩ => ⟨S1x256x48, .f32⟩
  | .hbm, ⟨28, _⟩ => ⟨S1x256x48, .f32⟩
  | .hbm, ⟨29, _⟩ => ⟨S1x256x48, .f32⟩
  | .hbm, ⟨30, _⟩ => ⟨S1x256x48, .f32⟩
  | .hbm, ⟨31, _⟩ => ⟨S1x256x48, .f32⟩
  | .hbm, ⟨32, _⟩ => ⟨S1x256x48, .f32⟩
  | .hbm, ⟨33, _⟩ => ⟨S1x256x48, .f32⟩
  | .hbm, ⟨34, _⟩ => ⟨S1x256x48, .f32⟩
  | .hbm, ⟨35, _⟩ => ⟨S1x256x48x1, .f32⟩
  | .hbm, ⟨36, _⟩ => ⟨S1x256x48x192, .f32⟩
  | .hbm, ⟨37, _⟩ => ⟨S1x256x48x192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x256x48x192, .f32⟩
  | .hbm, ⟨42, _⟩ => ⟨S1x256x48x192, .f32⟩
  | .hbm, ⟨43, _⟩ => ⟨S_, .f32⟩
  | .hbm, ⟨44, _⟩ => ⟨S1x256x48x192, .f32⟩
  | .hbm, ⟨45, _⟩ => ⟨S1x256x48x192, .f32⟩
  | .hbm, ⟨46, _⟩ => ⟨S1x256x48x192, .fp8e4m3⟩
  | .hbm, ⟨47, _⟩ => ⟨S1x256x48x192, .f32⟩
  | .hbm, ⟨48, _⟩ => ⟨S1x4x2x128x48x192, .f32⟩
  | .hbm, ⟨49, _⟩ => ⟨S1x4x2x128x48x192, .bf16⟩
  | .hbm, ⟨50, _⟩ => ⟨S1x193x48x192, .f32⟩
  | .hbm, ⟨51, _⟩ => ⟨S_, .f32⟩
  | .hbm, ⟨52, _⟩ => ⟨S1x63x48x192, .f32⟩
  | .hbm, ⟨53, _⟩ => ⟨S1x256x48x192, .f32⟩
  | .hbm, ⟨54, _⟩ => ⟨S1x193x48, .f32⟩
  | .hbm, ⟨55, _⟩ => ⟨S_, .f32⟩
  | .hbm, ⟨56, _⟩ => ⟨S1x63x48, .f32⟩
  | .hbm, ⟨57, _⟩ => ⟨S1x256x48, .f32⟩
  | .hbm, ⟨58, _⟩ => ⟨S1x4x64x48x192, .f32⟩
  | .hbm, ⟨59, _⟩ => ⟨S1x4x64x48, .f32⟩
  | .hbm, ⟨60, _⟩ => ⟨S1x4x256x48x192, .f32⟩
  | .hbm, ⟨61, _⟩ => ⟨S1x4x256x48, .f32⟩
  | .hbm, ⟨62, _⟩ => ⟨S1x4x48x256, .f32⟩
  | .hbm, ⟨63, _⟩ => ⟨S1x4x1x48x256, .f32⟩
  | .hbm, ⟨64, _⟩ => ⟨S1x4x256x48x192, .bf16⟩
  | .hbm, ⟨65, _⟩ => ⟨S1x4x256x48, .f32⟩
  | .hbm, ⟨66, _⟩ => ⟨S1x4x48x256, .f32⟩
  | .hbm, ⟨67, _⟩ => ⟨S1x4x1x48x256, .f32⟩
  | .hbm, ⟨68, _⟩ => ⟨S1x4x48x256x64, .f32⟩
  | .hbm, ⟨69, _⟩ => ⟨S1x4x64x48x256, .f32⟩
  | .hbm, ⟨70, _⟩ => ⟨S1x4x64x48x1, .f32⟩
  | .hbm, ⟨71, _⟩ => ⟨S1x4x64x48x256, .f32⟩
  | .hbm, ⟨72, _⟩ => ⟨S1x4x64x48x256, .f32⟩
  | .hbm, ⟨73, _⟩ => ⟨S1x4x64x48x256, .f32⟩
  | .hbm, ⟨74, _⟩ => ⟨S1x4x64x48x256, .f32⟩
  | .hbm, ⟨75, _⟩ => ⟨S_, .f32⟩
  | .hbm, ⟨76, _⟩ => ⟨S_, .f32⟩
  | .hbm, ⟨77, _⟩ => ⟨S1x4x64x48x256, .f32⟩
  | .hbm, ⟨78, _⟩ => ⟨S1x4x64x48x256, .f32⟩
  | .hbm, ⟨79, _⟩ => ⟨S_, .f32⟩
  | .hbm, ⟨80, _⟩ => ⟨S1x4x64x48, .f32⟩
  | .hbm, ⟨81, _⟩ => ⟨S1x4x64x48x1, .f32⟩
  | .hbm, ⟨82, _⟩ => ⟨S1x4x64x48x256, .f32⟩
  | .hbm, ⟨83, _⟩ => ⟨S1x4x64x48x256, .f32⟩
  | .hbm, ⟨84, _⟩ => ⟨S1x4x64x48x256, .f32⟩
  | .hbm, ⟨85, _⟩ => ⟨S_, .f32⟩
  | .hbm, ⟨86, _⟩ => ⟨S1x4x64x48, .f32⟩
  | .hbm, ⟨87, _⟩ => ⟨S1x4x64x48x1, .f32⟩
  | .hbm, ⟨88, _⟩ => ⟨S_, .f32⟩
  | .hbm, ⟨89, _⟩ => ⟨S1x4x64x48x1, .f32⟩
  | .hbm, ⟨90, _⟩ => ⟨S1x4x64x48x1, .f32⟩
  | .hbm, ⟨91, _⟩ => ⟨S1x4x64x48x256, .f32⟩
  | .hbm, ⟨92, _⟩ => ⟨S1x4x64x48x256, .f32⟩
  | .hbm, ⟨93, _⟩ => ⟨S1x4x64x48x256, .f32⟩
  | .hbm, ⟨94, _⟩ => ⟨S1x4x64x48x256, .f32⟩
  | .hbm, ⟨95, _⟩ => ⟨S1x4x64x48x256, .bf16⟩
  | .hbm, ⟨96, _⟩ => ⟨S1x4x48x192x64, .f32⟩
  | .hbm, ⟨97, _⟩ => ⟨S1x4x64x48x192, .f32⟩
  | .hbm, ⟨98, _⟩ => ⟨S1x256x9216, .f32⟩
  | .hbm, ⟨99, _⟩ => ⟨S1x193x9216, .f32⟩
  | .hbm, ⟨100, _⟩ => ⟨S_, .f32⟩
  | .hbm, ⟨101, _⟩ => ⟨S1x63x9216, .f32⟩
  | .hbm, ⟨102, _⟩ => ⟨S1x256x9216, .f32⟩
  | .hbm, ⟨103, _⟩ => ⟨S1x256x9216, .bf16⟩
  | .hbm, ⟨104, _⟩ => ⟨S256x9216, .bf16⟩
  | .hbm, ⟨105, _⟩ => ⟨S256x48x192, .fp8e4m3⟩
  | .hbm, ⟨106, _⟩ => ⟨S48x192x256, .fp8e4m3⟩
  | .hbm, ⟨107, _⟩ => ⟨S256x48, .f32⟩
  | .hbm, ⟨108, _⟩ => ⟨S48x256, .f32⟩
  | .local _ .vmem, ⟨0, _⟩ => ⟨S1x256x48x192, .f32⟩
  | .local _ .vmem, ⟨1, _⟩ => ⟨S1x4x2x128x48x192, .fp8e4m3⟩
  | .local _ .vmem, ⟨2, _⟩ => ⟨S1x4x2x128x48x192, .fp8e4m3⟩
  | .local _ .vmem, ⟨3, _⟩ => ⟨S1x256x48x192, .fp8e4m3⟩
  | .local _ .vmem, ⟨4, _⟩ => ⟨S1x256x48x192, .f32⟩
  | .local _ .vmem, ⟨5, _⟩ => ⟨S1x4x2x128x48x192, .f32⟩
  | .local _ .vmem, ⟨6, _⟩ => ⟨S1x4x2x128x48x192, .bf16⟩
  | _, _ => ⟨S1x256x48x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v25 : Ref sig .tc := ⟨.hbm, 45, rfl⟩
abbrev main_v26_0 : Ref sig .tc := ⟨.hbm, 46, rfl⟩
abbrev main_v26_1 : Ref sig .tc := ⟨.hbm, 47, rfl⟩
abbrev main_v26_2 : Ref sig .tc := ⟨.hbm, 48, rfl⟩
abbrev main_v26_3 : Ref sig .tc := ⟨.hbm, 49, rfl⟩
abbrev main_v27 : Ref sig .tc := ⟨.hbm, 50, rfl⟩
abbrev main_cst_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x256x48x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4x2x128x48x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x2x128x48x192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x48x192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256x48x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4x2x128x48x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4x2x128x48x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Head.lean ====
/- What the kernel computes for one head, operation by operation, as functions on vectors: the quantiser
   (`amax`, `expo`, `scale`, `values`), the score products (`score96`, `score32`), the probabilities of a block of
   query rows (`probs0`, `probs`), the output products and their blocks, and the tile of two neighbouring heads.
   Nothing here depends on the float model. -/
module

public import proofs.«01_k».proof.Proof.Gen.KernelIdeal.Skeleton
public import Idealize.ShloMosaic.Lib.Pipeline.FrameBody

@[expose] public section

set_option maxRecDepth 16384

noncomputable section

namespace Cert.KernelIdeal.Head

open Cert.KernelIdeal Cert.KernelIdeal.Gen
open Idealize.ShloMosaic Idealize.SL.Sem

variable {F : FTy → Type} [FloatOps F] [Named F]

/-- Two loads of 128 scales side by side: the 256 key scales of one chunk. -/
def keyRow (a b : Vec F S1x1x1x128 .f32) : FVec F S1x256 .f32 :=
  concatenate S1x256 1 [⟨S1x128, shapeCast S1x128 a shapeCasts_S1x1x1x128_S1x128⟩,
    ⟨S1x128, shapeCast S1x128 b shapeCasts_S1x1x1x128_S1x128⟩] concatenates_S1x128_S1x128_S1x256_d1

/-- The key scales with the score scale folded in. -/
def keyRowN (a b : Vec F S1x1x1x128 .f32) : FVec F S1x256 .f32 :=
  mulf (keyRow a b) (broadcast S1x256 (Named.named κ "scale_log2e" 0x3DD53B95#32))

/-- Two loads of 128 keys (or values) side by side: the 256 keys of one chunk, one per column. -/
def keyMat (a b : Vec F S1x1x1x192x128 .fp8e4m3) : FVec F S192x256 .fp8e4m3 :=
  concatenate S192x256 1 [⟨S192x128, shapeCast S192x128 a shapeCasts_S1x1x1x192x128_S192x128⟩,
    ⟨S192x128, shapeCast S192x128 b shapeCasts_S1x1x1x192x128_S192x128⟩] concatenates_S192x128_S192x128_S192x256_d1

/-- The head's queries, one per column. -/
def queries (a : Vec F S1x192x256 .bf16) : FVec F S192x256 .bf16 :=
  shapeCast S192x256 a shapeCasts_S1x192x256_S192x256

/-- The largest magnitude of each query over 448. -/
def amax (x : FVec F S192x256 .bf16) : FVec F S1x256 .f32 :=
  mulf (shapeCast S1x256
      (multiReduction .maximumf [0] S256 (extf .f32 (absf x) bitsLt_bf16_f32) 0xFF800000#32
        reduces_S192x256_S256 (.inl rfl) rfl) shapeCasts_S256_S1x256)
    (broadcast S1x256 (Scalar.ofBits .f32 0x3B124925#32))

/-- One round of the search for the exponent: the bit is kept where the power it makes is at most `y`. -/
def tryBit (y : FVec F S1x256 .f32) (bit : BitVec 32) (e : IVec S1x256 32) : IVec S1x256 32 :=
  select (cmpf .olt y (bitcastToFloat .f32 (shli (addi e (broadcast S1x256 bit)) (broadcast S1x256 23#32))))
    e (addi e (broadcast S1x256 bit))

/-- The biased exponent of `y`, found bit by bit. -/
def expo (y : FVec F S1x256 .f32) : IVec S1x256 32 :=
  tryBit y 1#32 (tryBit y 2#32 (tryBit y 4#32 (tryBit y 8#32 (tryBit y 16#32 (tryBit y 32#32
    (tryBit y 64#32 (tryBit y 128#32 (broadcast S1x256 0#32))))))))

/-- The exponent of the scale: `0` for a biased exponent of `0`, else that exponent less 126. -/
def scaleExp (y : FVec F S1x256 .f32) : IVec S1x256 32 :=
  select (cmpi .eq (expo y) (broadcast S1x256 0#32)) (broadcast S1x256 0#32)
    (subi (expo y) (broadcast S1x256 126#32))

/-- The scale of each query, a power of two. -/
def scale (x : FVec F S192x256 .bf16) : FVec F S1x256 .f32 :=
  bitcastToFloat .f32 (shli (addi (scaleExp (amax x)) (broadcast S1x256 127#32)) (broadcast S1x256 23#32))

/-- Its inverse. -/
def inverse (x : FVec F S192x256 .bf16) : FVec F S1x256 .f32 :=
  bitcastToFloat .f32 (shli (subi (broadcast S1x256 127#32) (scaleExp (amax x))) (broadcast S1x256 23#32))

/-- The queries over their scales, clipped to ±448. -/
def values (x : FVec F S192x256 .bf16) : FVec F S192x256 .f32 :=
  minimumf (broadcast S192x256 (Scalar.ofBits .f32 0x43E00000#32))
    (maximumf (broadcast S192x256 (Scalar.ofBits .f32 0xC3E00000#32))
      (mulf (extf .f32 x bitsLt_bf16_f32) (broadcastTo S192x256 (inverse x) broadcasts_S1x256_S192x256)))

/-- The codes. -/
def codes (x : FVec F S192x256 .bf16) : FVec F S192x256 .fp8e4m3 :=
  truncf .fp8e4m3 (values x) bitsLt_fp8e4m3_f32

/-- The quantised queries, one per row, padded to 256 columns with zeros. -/
def qMat (x : FVec F S192x256 .bf16) : FVec F S256x256 .fp8e4m3 :=
  truncf .fp8e4m3 (transpose S256x256 [1, 0]
    (concatenate S256x256 0 [⟨S192x256, values x⟩,
      ⟨S64x256, broadcast S64x256 (Scalar.ofBits .f32 0x00000000#32)⟩] concatenates_S192x256_S64x256_S256x256_d0)
    transposes_S256x256_p1_0_S256x256) bitsLt_fp8e4m3_f32

/-- The scale of query `t` in every column of row `t`. -/
def qScale (x : FVec F S192x256 .bf16) : FVec F S256x256 .f32 :=
  concatenate S256x256 1
    [⟨S256x128, transpose S256x128 [1, 0] (broadcastTo S128x256
      (shapeCast S1x256 (scale x) shapeCasts_S1x256_S1x256) broadcasts_S1x256_S128x256) transposes_S128x256_p1_0_S256x128⟩,
     ⟨S256x128, transpose S256x128 [1, 0] (broadcastTo S128x256
      (shapeCast S1x256 (scale x) shapeCasts_S1x256_S1x256) broadcasts_S1x256_S128x256) transposes_S128x256_p1_0_S256x128⟩]
    concatenates_S256x128_S256x128_S256x256_d1

/-- Rows of zeros. -/
def zeros64 : FVec F S64x256 .fp8e4m3 := broadcast S64x256 (Scalar.ofBits .fp8e4m3 0x00#8)

/-- The keys (or values) with 64 rows of zeros below. -/
def padBelow (k : FVec F S192x256 .fp8e4m3) : FVec F S256x256 .fp8e4m3 :=
  concatenate S256x256 0 [⟨S192x256, k⟩, ⟨S64x256, zeros64⟩] concatenates_S192x256_S64x256_S256x256_d0

/-- The values with 64 rows of zeros above. -/
def padAbove (k : FVec F S192x256 .fp8e4m3) : FVec F S256x256 .fp8e4m3 :=
  concatenate S256x256 0 [⟨S64x256, zeros64⟩, ⟨S192x256, k⟩] concatenates_S64x256_S192x256_S256x256_d0

/-- 96 query rows, from row `o` on, against the keys of a chunk. -/
def score96 (o : Nat) (h : Shape.Slices S256x256 ![o, 0] S96x256) (x : FVec F S192x256 .bf16)
    (k : FVec F S192x256 .fp8e4m3) : FVec F S96x256 .f32 :=
  matmul dot_S96x256_S256x256_S96x256_1_0_0_1_n_n none (extractStridedSlice S96x256 ![o, 0] (qMat x) h)
    (padBelow k) (constant S96x256 .f32 0x00000000#32)

/-- The last 32 query rows against the keys of the last chunk. -/
def score32 (x : FVec F S192x256 .bf16) (k : FVec F S192x256 .fp8e4m3) : FVec F S32x256 .f32 :=
  matmul dot_S32x256_S256x256_S32x256_1_0_0_1_n_n none
    (extractStridedSlice S32x256 ![224, 0] (qMat x) slices_S256x256_o224_0_S32x256)
    (padBelow k) (constant S32x256 .f32 0x00000000#32)

/-- The mask of the last of eight rows. -/
def isLast : IVec S8x256 1 :=
  cmpi .eq (iota .tc S8x256 32 [0] iota_S8x256_d0_w32) (broadcast S8x256 7#32)

/-- The probabilities of the last eight rows of the first block, times the value scales, below eight rows of zeros. -/
def probs0 (s : FVec F S96x256 .f32) (kn vs : FVec F S1x256 .f32) (qs : FVec F S256x256 .f32) : FVec F S16x256 .bf16 :=
  have w : FVec F S8x256 .f32 := mulf
    (mulf (extractStridedSlice S8x256 ![24, 0] s slices_S96x256_o24_0_S8x256)
      (broadcastTo S8x256 kn broadcasts_S1x256_S8x256))
    (extractStridedSlice S8x256 ![56, 0] qs slices_S256x256_o56_0_S8x256)
  have z : FVec F S8x256 .f32 := exp2 (subf w (broadcastTo S8x256 (shapeCast S8x1
    (multiReduction .maximumf [1] S8 w 0xFF800000#32 reduces_S8x256_S8 (.inl rfl) rfl) shapeCasts_S8_S8x1)
    broadcasts_S8x1_S8x256))
  truncf .bf16 (concatenate S16x256 0 [⟨S8x256, broadcast S8x256 (Scalar.ofBits .f32 0x00000000#32)⟩,
    ⟨S8x256, mulf (mulf z (broadcastTo S8x256 (divf (broadcast S8x1 (Scalar.ofBits .f32 0x3F800000#32))
      (shapeCast S8x1 (multiReduction .add [1] S8 z 0x00000000#32 reduces_S8x256_S8 (.inl rfl) rfl) shapeCasts_S8_S8x1))
      broadcasts_S8x1_S8x256))
      (broadcastTo S8x256 (shapeCast S1x256 vs shapeCasts_S1x256_S1x256) broadcasts_S1x256_S8x256)⟩]
    concatenates_S8x256_S8x256_S16x256_d0) bitsLt_bf16_f32

/-- The scores of a block of 64 query rows, the key scales in: the last row's come from the next chunk's product. -/
def scoreBlock (prev : FVec F S96x256 .f32) (tail : FVec F S8x256 .f32) (kp kt : FVec F S1x256 .f32) :
    FVec F S64x256 .f32 :=
  have body : FVec F S64x256 .f32 := extractStridedSlice S64x256 ![32, 0] prev slices_S96x256_o32_0_S64x256
  concatenate S64x256 0
    [⟨S56x256, mulf (extractStridedSlice S56x256 ![0, 0] body slices_S64x256_o0_0_S56x256)
        (broadcastTo S56x256 kp broadcasts_S1x256_S56x256)⟩,
     ⟨S8x256, mulf (select isLast tail (extractStridedSlice S8x256 ![56, 0] body slices_S64x256_o56_0_S8x256))
        (select isLast
          (broadcastTo S8x256 (shapeCast S1x256 kt shapeCasts_S1x256_S1x256) broadcasts_S1x256_S8x256)
          (broadcastTo S8x256 (shapeCast S1x256 kp shapeCasts_S1x256_S1x256) broadcasts_S1x256_S8x256))⟩]
    concatenates_S56x256_S8x256_S64x256_d0

/-- The value scales of a block of 64 query rows: the last row's are the next chunk's. -/
def valueScales (vp vt : FVec F S1x256 .f32) : FVec F S64x256 .f32 :=
  concatenate S64x256 0
    [⟨S56x256, broadcastTo S56x256 (shapeCast S1x256 vp shapeCasts_S1x256_S1x256) broadcasts_S1x256_S56x256⟩,
     ⟨S8x256, select isLast
          (broadcastTo S8x256 (shapeCast S1x256 vt shapeCasts_S1x256_S1x256) broadcasts_S1x256_S8x256)
          (broadcastTo S8x256 (shapeCast S1x256 vp shapeCasts_S1x256_S1x256) broadcasts_S1x256_S8x256)⟩]
    concatenates_S56x256_S8x256_S64x256_d0

/-- The probabilities of a block of 64 query rows, times the value scales. -/
def probs (s qs vs : FVec F S64x256 .f32) : FVec F S64x256 .bf16 :=
  have w : FVec F S64x256 .f32 := mulf s qs
  have z : FVec F S64x256 .f32 := exp2 (subf w (broadcastTo S64x256 (shapeCast S64x1
    (multiReduction .maximumf [1] S64 w 0xFF800000#32 reduces_S64x256_S64 (.inl rfl) rfl) shapeCasts_S64_S64x1)
    broadcasts_S64x1_S64x256))
  truncf .bf16 (mulf (mulf z (broadcastTo S64x256 (divf (broadcast S64x1 (Scalar.ofBits .f32 0x3F800000#32))
      (shapeCast S64x1 (multiReduction .add [1] S64 z 0x00000000#32 reduces_S64x256_S64 (.inl rfl) rfl)
        shapeCasts_S64_S64x1)) broadcasts_S64x1_S64x256)) vs) bitsLt_bf16_f32

/-- The last sixteen rows of a block of probabilities. -/
def last16 (p : FVec F S64x256 .bf16) : FVec F S16x256 .bf16 :=
  extractStridedSlice S16x256 ![48, 0] p slices_S64x256_o48_0_S16x256

/-- Sixteen rows of one block and the 64 of the next against the values of a chunk. -/
def out80 (a : FVec F S16x256 .bf16) (b : FVec F S64x256 .bf16) (v : FVec F S256x256 .fp8e4m3) : FVec F S80x256 .f32 :=
  matmul dot_S80x256_S256x256_S80x256_1_1_0_0_n_n none
    (concatenate S80x256 0 [⟨S16x256, a⟩, ⟨S64x256, b⟩] concatenates_S16x256_S64x256_S80x256_d0) v
    (constant S80x256 .f32 0x00000000#32)

/-- The last sixteen rows of the last block against the values of the last chunk. -/
def out16 (a : FVec F S16x256 .bf16) (v : FVec F S256x256 .fp8e4m3) : FVec F S16x256 .f32 :=
  matmul dot_S16x256_S256x256_S16x256_1_1_0_0_n_n none a v (constant S16x256 .f32 0x00000000#32)

/-- The first block of results: zeros but for the last row. -/
def block0 (o : FVec F S80x256 .f32) : FVec F S64x256 .f32 :=
  concatenate S64x256 0 [⟨S56x256, broadcast S56x256 (Scalar.ofBits .f32 0x00000000#32)⟩,
    ⟨S8x256, select isLast (extractStridedSlice S8x256 ![8, 0] o slices_S80x256_o8_0_S8x256)
      (broadcast S8x256 (Scalar.ofBits .f32 0x00000000#32))⟩] concatenates_S56x256_S8x256_S64x256_d0

/-- A later block of results: the body of the chunk's product, but its last row from `tail`. -/
def blockN (o : FVec F S80x256 .f32) (tail : FVec F S8x256 .f32) : FVec F S64x256 .f32 :=
  have body : FVec F S64x256 .f32 := extractStridedSlice S64x256 ![16, 0] o slices_S80x256_o16_0_S64x256
  concatenate S64x256 0
    [⟨S56x256, extractStridedSlice S56x256 ![0, 0] body slices_S64x256_o0_0_S56x256⟩,
     ⟨S8x256, select isLast tail (extractStridedSlice S8x256 ![56, 0] body slices_S64x256_o56_0_S8x256)⟩]
    concatenates_S56x256_S8x256_S64x256_d0

/-- The last row's source in a product of 80 rows, and in one of 16. -/
def tail80 (o : FVec F S80x256 .f32) : FVec F S8x256 .f32 :=
  extractStridedSlice S8x256 ![8, 0] o slices_S80x256_o8_0_S8x256
@[inherit_doc tail80]
def tail16 (o : FVec F S16x256 .f32) : FVec F S8x256 .f32 :=
  extractStridedSlice S8x256 ![8, 0] o slices_S16x256_o8_0_S8x256

/-- Blocks `1`, `2` and `3` of the queries' probabilities. -/
def p0 (x : FVec F S192x256 .bf16) (k : Fin 4 → FVec F S192x256 .fp8e4m3) (kn vs : Fin 4 → FVec F S1x256 .f32) :
    FVec F S16x256 .bf16 :=
  probs0 (score96 32 slices_S256x256_o32_0_S96x256 x (k 0)) (kn 0) (vs 0) (qScale x)
@[inherit_doc p0]
def p1 (x : FVec F S192x256 .bf16) (k : Fin 4 → FVec F S192x256 .fp8e4m3) (kn vs : Fin 4 → FVec F S1x256 .f32) :
    FVec F S64x256 .bf16 :=
  probs (scoreBlock (score96 32 slices_S256x256_o32_0_S96x256 x (k 0))
      (extractStridedSlice S8x256 ![24, 0] (score96 96 slices_S256x256_o96_0_S96x256 x (k 1))
        slices_S96x256_o24_0_S8x256) (kn 0) (kn 1))
    (extractStridedSlice S64x256 ![64, 0] (qScale x) slices_S256x256_o64_0_S64x256) (valueScales (vs 0) (vs 1))
@[inherit_doc p0]
def p2 (x : FVec F S192x256 .bf16) (k : Fin 4 → FVec F S192x256 .fp8e4m3) (kn vs : Fin 4 → FVec F S1x256 .f32) :
    FVec F S64x256 .bf16 :=
  probs (scoreBlock (score96 96 slices_S256x256_o96_0_S96x256 x (k 1))
      (extractStridedSlice S8x256 ![24, 0] (score96 160 slices_S256x256_o160_0_S96x256 x (k 2))
        slices_S96x256_o24_0_S8x256) (kn 1) (kn 2))
    (extractStridedSlice S64x256 ![128, 0] (qScale x) slices_S256x256_o128_0_S64x256) (valueScales (vs 1) (vs 2))
@[inherit_doc p0]
def p3 (x : FVec F S192x256 .bf16) (k : Fin 4 → FVec F S192x256 .fp8e4m3) (kn vs : Fin 4 → FVec F S1x256 .f32) :
    FVec F S64x256 .bf16 :=
  probs (scoreBlock (score96 160 slices_S256x256_o160_0_S96x256 x (k 2))
      (extractStridedSlice S8x256 ![24, 0] (score32 x (k 3)) slices_S32x256_o24_0_S8x256) (kn 2) (kn 3))
    (extractStridedSlice S64x256 ![192, 0] (qScale x) slices_S256x256_o192_0_S64x256) (valueScales (vs 2) (vs 3))

/-- Everything a head is computed from: its queries, and per chunk its keys, values and their scales. -/
structure Inputs (F : FTy → Type) where
  x : FVec F S192x256 .bf16
  k : Fin 4 → FVec F S192x256 .fp8e4m3
  kn : Fin 4 → FVec F S1x256 .f32
  v : Fin 4 → FVec F S192x256 .fp8e4m3
  vs : Fin 4 → FVec F S1x256 .f32

/-- The four products of probabilities with values; `pad` widens the 192 rows of values to 256. -/
def o0 (pad : FVec F S192x256 .fp8e4m3 → FVec F S256x256 .fp8e4m3) (a : Inputs F) : FVec F S80x256 .f32 :=
  out80 (p0 a.x a.k a.kn a.vs) (p1 a.x a.k a.kn a.vs) (pad (a.v 0))
@[inherit_doc o0]
def o1 (pad : FVec F S192x256 .fp8e4m3 → FVec F S256x256 .fp8e4m3) (a : Inputs F) : FVec F S80x256 .f32 :=
  out80 (last16 (p1 a.x a.k a.kn a.vs)) (p2 a.x a.k a.kn a.vs) (pad (a.v 1))
@[inherit_doc o0]
def o2 (pad : FVec F S192x256 .fp8e4m3 → FVec F S256x256 .fp8e4m3) (a : Inputs F) : FVec F S80x256 .f32 :=
  out80 (last16 (p2 a.x a.k a.kn a.vs)) (p3 a.x a.k a.kn a.vs) (pad (a.v 2))
@[inherit_doc o0]
def o3 (pad : FVec F S192x256 .fp8e4m3 → FVec F S256x256 .fp8e4m3) (a : Inputs F) : FVec F S16x256 .f32 :=
  out16 (last16 (p3 a.x a.k a.kn a.vs)) (pad (a.v 3))

/-- The four blocks of 64 rows of a head's result, 256 columns wide. -/
def b0 (pad : FVec F S192x256 .fp8e4m3 → FVec F S256x256 .fp8e4m3) (a : Inputs F) : FVec F S64x256 .f32 :=
  block0 (o0 pad a)
@[inherit_doc b0]
def b1 (pad : FVec F S192x256 .fp8e4m3 → FVec F S256x256 .fp8e4m3) (a : Inputs F) : FVec F S64x256 .f32 :=
  blockN (o0 pad a) (tail80 (o1 pad a))
@[inherit_doc b0]
def b2 (pad : FVec F S192x256 .fp8e4m3 → FVec F S256x256 .fp8e4m3) (a : Inputs F) : FVec F S64x256 .f32 :=
  blockN (o1 pad a) (tail80 (o2 pad a))
@[inherit_doc b0]
def b3 (pad : FVec F S192x256 .fp8e4m3 → FVec F S256x256 .fp8e4m3) (a : Inputs F) : FVec F S64x256 .f32 :=
  blockN (o2 pad a) (tail16 (o3 pad a))

/-- Two heads' blocks in one tile of 384 columns: the first head's are its first 192, the second's its last 192. -/
def tile (a b : FVec F S64x256 .f32) : FVec F S64x384 .bf16 :=
  truncf .bf16 (concatenate S64x384 1
    [⟨S64x128, extractStridedSlice S64x128 ![0, 0] a slices_S64x256_o0_0_S64x128⟩,
     ⟨S64x128, select (cmpi .slt (iota .tc S64x128 32 [1] iota_S64x128_d1_w32) (broadcast S64x128 64#32))
        (extractStridedSlice S64x128 ![0, 128] a slices_S64x256_o0_128_S64x128)
        (extractStridedSlice S64x128 ![0, 0] b slices_S64x256_o0_0_S64x128)⟩,
     ⟨S64x128, extractStridedSlice S64x128 ![0, 128] b slices_S64x256_o0_128_S64x128⟩]
    concatenates_S64x128_S64x128_S64x128_S64x384_d1) bitsLt_bf16_f32

/-- Where the 128 scales of chunk `u`, neighbour `n` and head `r` of the step's four lie. -/
def scaleOff (i : grid0.Coords) (r : Fin 4) (u : Fin 4) (n : Fin 2) : Fin 4 → Nat :=
  ![u.val, n.val, (Scalar.indexCast (Scalar.addi (Scalar.muli (BitVec.ofNat 32 (i 0).val) 4#32)
    (BitVec.ofNat 32 r.val))).toNat, 0]

theorem scaleOff_inb (i : grid0.Coords) (r : Fin 4) (u : Fin 4) (n : Fin 2) :
    ∀ a, scaleOff i r u n a + S1x1x1x128.size a ≤ S4x2x48x128.size a := by
  fin_cases u <;> fin_cases n
  · exact k0_off1_inb i r
  · exact k0_off2_inb i r
  · exact k0_off3_inb i r
  · exact k0_off4_inb i r
  · exact k0_off5_inb i r
  · exact k0_off6_inb i r
  · exact k0_off7_inb i r
  · exact k0_off8_inb i r

theorem keyOff_inb (r : Fin 4) (u : Fin 4) (n : Fin 2) :
    ∀ a, (![u.val, n.val, r.val, 0, 0] : Fin 5 → Nat) a + S1x1x1x192x128.size a ≤ S4x2x4x192x128.size a := by
  revert r u n; decide

theorem headOff_inb (r : Fin 4) :
    ∀ a, (![r.val, 0, 0] : Fin 3 → Nat) a + S1x192x256.size a ≤ S4x192x256.size a := by
  revert r; decide

/-- What head `r` of the four of one grid step is computed from: the loads from the five input blocks. -/
def inputs (i : grid0.Coords) (r : Fin 4) (x0 : Vec F S4x192x256 .bf16) (x1 : Vec F S4x2x4x192x128 .fp8e4m3)
    (x2 : Vec F S4x2x48x128 .f32) (x3 : Vec F S4x2x4x192x128 .fp8e4m3) (x4 : Vec F S4x2x48x128 .f32) : Inputs F where
  x := queries (View.ld x0 (Rect.unit (s := S4x192x256) ![r.val, 0, 0] S1x192x256.size (headOff_inb r)))
  k u := keyMat
    (View.ld x1 (Rect.unit (s := S4x2x4x192x128) ![u.val, (0 : Fin 2).val, r.val, 0, 0] S1x1x1x192x128.size (keyOff_inb r u 0)))
    (View.ld x1 (Rect.unit (s := S4x2x4x192x128) ![u.val, (1 : Fin 2).val, r.val, 0, 0] S1x1x1x192x128.size (keyOff_inb r u 1)))
  kn u := keyRowN
    (View.ld x2 (Rect.unit (s := S4x2x48x128) (scaleOff i r u 0) S1x1x1x128.size (scaleOff_inb i r u 0)))
    (View.ld x2 (Rect.unit (s := S4x2x48x128) (scaleOff i r u 1) S1x1x1x128.size (scaleOff_inb i r u 1)))
  v u := keyMat
    (View.ld x3 (Rect.unit (s := S4x2x4x192x128) ![u.val, (0 : Fin 2).val, r.val, 0, 0] S1x1x1x192x128.size (keyOff_inb r u 0)))
    (View.ld x3 (Rect.unit (s := S4x2x4x192x128) ![u.val, (1 : Fin 2).val, r.val, 0, 0] S1x1x1x192x128.size (keyOff_inb r u 1)))
  vs u := keyRow
    (View.ld x4 (Rect.unit (s := S4x2x48x128) (scaleOff i r u 0) S1x1x1x128.size (scaleOff_inb i r u 0)))
    (View.ld x4 (Rect.unit (s := S4x2x48x128) (scaleOff i r u 1) S1x1x1x128.size (scaleOff_inb i r u 1)))

end Cert.KernelIdeal.Head

end
-- ==== Proof.Run.lean ====
/- The kernel's body: from the five input blocks of a grid step it leaves the tiles of `outTiles`, the codes of
   `codesBlock`, and puts the step's four rows into the array of scales (`putScales`). -/
module

public import proofs.«01_k».proof.Proof.Gen.KernelIdeal.Frame
public import proofs.«01_k».proof.Proof.Head
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen Cert.KernelIdeal.Head

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block of results of one grid step: 256 rows, the step's four heads side by side. -/
def outTiles (i : grid0.Coords) (x0 : Vec F S4x192x256 .bf16) (x1 : Vec F S4x2x4x192x128 .fp8e4m3)
    (x2 : Vec F S4x2x48x128 .f32) (x3 : Vec F S4x2x4x192x128 .fp8e4m3) (x4 : Vec F S4x2x48x128 .f32) :
    Vec F S256x768 .bf16 :=
  View.canon [
    ⟨Rect.unit (s := S256x768) ![192, 384] S64x384.size inb_S256x768_S64x384_192_384,
      tile (b3 padBelow (inputs i 2 x0 x1 x2 x3 x4)) (b3 padAbove (inputs i 3 x0 x1 x2 x3 x4))⟩,
    ⟨Rect.unit (s := S256x768) ![128, 384] S64x384.size inb_S256x768_S64x384_128_384,
      tile (b2 padBelow (inputs i 2 x0 x1 x2 x3 x4)) (b2 padAbove (inputs i 3 x0 x1 x2 x3 x4))⟩,
    ⟨Rect.unit (s := S256x768) ![64, 384] S64x384.size inb_S256x768_S64x384_64_384,
      tile (b1 padBelow (inputs i 2 x0 x1 x2 x3 x4)) (b1 padAbove (inputs i 3 x0 x1 x2 x3 x4))⟩,
    ⟨Rect.unit (s := S256x768) ![0, 384] S64x384.size inb_S256x768_S64x384_0_384,
      tile (b0 padBelow (inputs i 2 x0 x1 x2 x3 x4)) (b0 padAbove (inputs i 3 x0 x1 x2 x3 x4))⟩,
    ⟨Rect.unit (s := S256x768) ![192, 0] S64x384.size inb_S256x768_S64x384_192_0,
      tile (b3 padBelow (inputs i 0 x0 x1 x2 x3 x4)) (b3 padAbove (inputs i 1 x0 x1 x2 x3 x4))⟩,
    ⟨Rect.unit (s := S256x768) ![128, 0] S64x384.size inb_S256x768_S64x384_128_0,
      tile (b2 padBelow (inputs i 0 x0 x1 x2 x3 x4)) (b2 padAbove (inputs i 1 x0 x1 x2 x3 x4))⟩,
    ⟨Rect.unit (s := S256x768) ![64, 0] S64x384.size inb_S256x768_S64x384_64_0,
      tile (b1 padBelow (inputs i 0 x0 x1 x2 x3 x4)) (b1 padAbove (inputs i 1 x0 x1 x2 x3 x4))⟩,
    ⟨Rect.unit (s := S256x768) ![0, 0] S64x384.size inb_S256x768_S64x384_0_0,
      tile (b0 padBelow (inputs i 0 x0 x1 x2 x3 x4)) (b0 padAbove (inputs i 1 x0 x1 x2 x3 x4))⟩]

/-- Head `r`'s queries in the step's block. -/
def headX (x0 : Vec F S4x192x256 .bf16) (r : Fin 4) : FVec F S192x256 .bf16 :=
  queries (View.ld x0 (Rect.unit (s := S4x192x256) ![r.val, 0, 0] S1x192x256.size (headOff_inb r)))

/-- The block of codes of one grid step. -/
def codesBlock (x0 : Vec F S4x192x256 .bf16) : Vec F S4x192x256 .fp8e4m3 :=
  View.canon [
    ⟨Rect.unit (s := S4x192x256) ![3, 0, 0] S1x192x256.size (headOff_inb 3),
      shapeCast S1x192x256 (codes (headX x0 3)) shapeCasts_S192x256_S1x192x256⟩,
    ⟨Rect.unit (s := S4x192x256) ![2, 0, 0] S1x192x256.size (headOff_inb 2),
      shapeCast S1x192x256 (codes (headX x0 2)) shapeCasts_S192x256_S1x192x256⟩,
    ⟨Rect.unit (s := S4x192x256) ![1, 0, 0] S1x192x256.size (headOff_inb 1),
      shapeCast S1x192x256 (codes (headX x0 1)) shapeCasts_S192x256_S1x192x256⟩,
    ⟨Rect.unit (s := S4x192x256) ![0, 0, 0] S1x192x256.size (headOff_inb 0),
      shapeCast S1x192x256 (codes (headX x0 0)) shapeCasts_S192x256_S1x192x256⟩]

/-- The array of scales with the step's four rows put in. -/
def putScales (i : grid0.Coords) (x0 : Vec F S4x192x256 .bf16) (d : Vec F S48x256 .f32) : Vec F S48x256 .f32 :=
  VecWindow.put (s := S48x256) (VecWindow.put (s := S48x256) (VecWindow.put (s := S48x256) (VecWindow.put (s := S48x256) d
    (k0_off9 i 0#32) S1x256.size (scale (headX x0 0)))
    (k0_off9 i 1#32) S1x256.size (scale (headX x0 1)))
    (k0_off9 i 2#32) S1x256.size (scale (headX x0 2)))
    (k0_off9 i 3#32) S1x256.size (scale (headX x0 3))

set_option maxHeartbeats 1476000 in
/-- The body's run: on whole staging memrefs holding the inputs' blocks, it leaves the inputs' as they were and the
    outputs' at `outTiles`, `codesBlock` and `putScales` of what the third held. -/
theorem run (c : Dev nD) (i : grid0.Coords) (arg1 : Memref sig .tc .vmem S4x192x256 .bf16) (harg1 : arg1.IsWhole) (arg2 : Memref sig .tc .vmem S4x2x4x192x128 .fp8e4m3) (harg2 : arg2.IsWhole) (arg3 : Memref sig .tc .vmem S4x2x48x128 .f32) (harg3 : arg3.IsWhole) (arg4 : Memref sig .tc .vmem S4x2x4x192x128 .fp8e4m3) (harg4 : arg4.IsWhole) (arg5 : Memref sig .tc .vmem S4x2x48x128 .f32) (harg5 : arg5.IsWhole) (arg6 : Memref sig .tc .vmem S256x768 .bf16) (harg6 : arg6.IsWhole) (arg7 : Memref sig .tc .vmem S4x192x256 .fp8e4m3) (harg7 : arg7.IsWhole) (arg8 : Memref sig .tc .vmem S48x256 .f32) (harg8 : arg8.IsWhole)
    (x0 : Vec F S4x192x256 .bf16) (x1 : Vec F S4x2x4x192x128 .fp8e4m3) (x2 : Vec F S4x2x48x128 .f32) (x3 : Vec F S4x2x4x192x128 .fp8e4m3) (x4 : Vec F S4x2x48x128 .f32) (d7 : Vec F S48x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare d7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outTiles i x0 x1 x2 x3 x4)
              ∗ owns (c : Thread nD τ) arg7 fullShare (codesBlock x0) ∗ owns (c : Thread nD τ) arg8 fullShare (putScales i x0 d7)) -∗ K ⟨⟩))
          ⊢ wp frame (wpE (defs₀ (F := F)) Variants.none c none) E (cc0_retro_attention i arg1 harg1 arg2 harg2 arg3 harg3 arg4 harg4 arg5 harg5 arg6 harg6 arg7 harg7 arg8 harg8) K := by
    intro E K
    simp only [cc0_retro_attention_eq_skeleton]; unfold cc0_retro_attention_skel
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
    obtain rfl := hf0; obtain rfl := hf1; obtain rfl := hf2; obtain rfl := hf3; obtain rfl := hf4; obtain rfl := hf7
    sl_exec
    sl_step
    iapply Hk
    isplitl [H0]
    · iexists _; isplitr
      · ipureintro; rfl
      · iexact H0
    isplitl [H1]
    · iexists _; isplitr
      · ipureintro; rfl
      · iexact H1
    isplitl [H2]
    · iexists _; isplitr
      · ipureintro; rfl
      · iexact H2
    isplitl [H3]
    · iexists _; isplitr
      · ipureintro; rfl
      · iexact H3
    isplitl [H4]
    · iexists _; isplitr
      · ipureintro; rfl
      · iexact H4
    isplitl [H5]
    · iexists _; isplitr; swap
      · iexact H5
      · ipureintro
        refine (View.read_writes_eq_canon _ _ _ ?_).trans ?_
        · exact fun y => View.cover_of_tiled _ ![64, 384] (by rfl) y
        · rfl
    isplitl [H6]
    · iexists _; isplitr; swap
      · iexact H6
      · ipureintro
        refine (View.read_writes_eq_canon _ _ _ ?_).trans ?_
        · exact fun y => View.cover_of_tiled _ ![1, 192, 256] (by rfl) y
        · rfl
    · iexists _; isplitr; swap
      · iexact H7
      · ipureintro
        rw [View.read_writes_cons_put arg8.view f7 _ _ _ rfl, View.read_writes_cons_put arg8.view f7 _ _ _ rfl,
          View.read_writes_cons_put arg8.view f7 _ _ _ rfl, View.read_writes_cons_put arg8.view f7 _ _ _ rfl]
        rfl

end Cert.KernelIdeal.Hand

end
-- ==== Proof.Rows.lean ====
/- The array of scales, which every grid step adds four rows to: `putScales` read at an index. -/
module

public import proofs.«01_k».proof.Proof.Run
public import Idealize.ShloMosaic.Lib.Pointwise.Index

@[expose] public section

set_option maxRecDepth 16384

noncomputable section

namespace Cert.KernelIdeal.Hand

open Cert.KernelIdeal Cert.KernelIdeal.Gen Cert.KernelIdeal.Head
open Idealize.ShloMosaic Idealize.SL.Sem

variable {F : FTy → Type} [FloatOps F] [Named F]

/-- Where a step's row `r` lies among the 48. -/
theorem off9_eq (i : grid0.Coords) (r : Fin 4) : k0_off9 i (BitVec.ofNat 32 r.val) = ![4 * (i 0).val + r.val, 0] := by
  have h : ∀ (n : Fin 12) (r : Fin 4),
      (Scalar.indexCast (Scalar.addi (Scalar.muli (BitVec.ofNat 32 n.val) 4#32) (BitVec.ofNat 32 r.val))).toNat
        = 4 * n.val + r.val := by decide
  have e := h (i 0) r
  show ![(Scalar.indexCast (Scalar.addi (Scalar.muli (BitVec.ofNat 32 (i 0).val) 4#32) (BitVec.ofNat 32 r.val))).toNat, 0] = _
  rw [e]

/-- One row put into the array, read at row `q`. -/
theorem put_row (d : Vec F S48x256 .f32) (off : Fin 2 → ℕ) (o : ℕ) (h : off = ![o, 0]) (w : FVec F S1x256 .f32) (q : Fin 48) (j : Fin 256) :
    VecWindow.put (s := S48x256) d off S1x256.size w (ix2 q j) = if q.val = o then w (ix2 0 j) else d (ix2 q j) := by
  subst h
  unfold VecWindow.put
  by_cases hq : q.val = o
  · have hall : ∀ a : Fin 2, (![o, 0] : Fin 2 → ℕ) a ≤ ((ix2 q j : S48x256.Idx) a).val
        ∧ ((ix2 q j : S48x256.Idx) a).val < (![o, 0] : Fin 2 → ℕ) a + S1x256.size a := by
      intro a
      match a with
      | ⟨0, _⟩ => exact ⟨hq.ge, by show q.val < o + 1; omega⟩
      | ⟨1, _⟩ => exact ⟨Nat.zero_le _, by show j.val < 0 + 256; have := j.isLt; omega⟩
    rw [dif_pos hall, if_pos hq]
    congr 1
    funext a
    match a with
    | ⟨0, _⟩ => exact Fin.ext (by show q.val - o = 0; omega)
    | ⟨1, _⟩ => exact Fin.ext (by show j.val - 0 = j.val; omega)
  · rw [dif_neg, if_neg hq]
    intro hall
    have h0 := hall 0
    have h1 : o ≤ q.val := h0.1
    have h2 : q.val < o + 1 := h0.2
    omega

/-- The array after a step, at row `q`: the step's own four rows are new, the others are as they were. -/
theorem putScales_apply (i : grid0.Coords) (x0 : Vec F S4x192x256 .bf16) (d : Vec F S48x256 .f32) (q : Fin 48) (j : Fin 256) :
    putScales i x0 d (ix2 q j)
      = if q.val / 4 = (i 0).val then scale (headX x0 ⟨q.val % 4, Nat.mod_lt _ (by decide)⟩) (ix2 0 j) else d (ix2 q j) := by
  unfold putScales
  have e3 : k0_off9 i 3#32 = ![4 * (i 0).val + 3, 0] := off9_eq i 3
  have e2 : k0_off9 i 2#32 = ![4 * (i 0).val + 2, 0] := off9_eq i 2
  have e1 : k0_off9 i 1#32 = ![4 * (i 0).val + 1, 0] := off9_eq i 1
  have e0 : k0_off9 i 0#32 = ![4 * (i 0).val + 0, 0] := off9_eq i 0
  rw [put_row _ _ _ e3, put_row _ _ _ e2, put_row _ _ _ e1, put_row _ _ _ e0]
  have hr : ∀ (n : ℕ) (hn : n < 4), q.val = 4 * (i 0).val + n → q.val % 4 = n ∧ q.val / 4 = (i 0).val := by
    intro n hn h; omega
  by_cases h3 : q.val = 4 * (i 0).val + 3
  · obtain ⟨e, e'⟩ := hr 3 (by decide) h3
    rw [if_pos h3, if_pos e', show (⟨q.val % 4, Nat.mod_lt _ (by decide)⟩ : Fin 4) = 3 from Fin.ext e]
  rw [if_neg h3]
  by_cases h2 : q.val = 4 * (i 0).val + 2
  · obtain ⟨e, e'⟩ := hr 2 (by decide) h2
    rw [if_pos h2, if_pos e', show (⟨q.val % 4, Nat.mod_lt _ (by decide)⟩ : Fin 4) = 2 from Fin.ext e]
  rw [if_neg h2]
  by_cases h1 : q.val = 4 * (i 0).val + 1
  · obtain ⟨e, e'⟩ := hr 1 (by decide) h1
    rw [if_pos h1, if_pos e', show (⟨q.val % 4, Nat.mod_lt _ (by decide)⟩ : Fin 4) = 1 from Fin.ext e]
  rw [if_neg h1]
  by_cases h0 : q.val = 4 * (i 0).val + 0
  · obtain ⟨e, e'⟩ := hr 0 (by decide) h0
    rw [if_pos h0, if_pos e', show (⟨q.val % 4, Nat.mod_lt _ (by decide)⟩ : Fin 4) = 0 from Fin.ext e]
  rw [if_neg h0, if_neg (by omega)]

end Cert.KernelIdeal.Hand

end
-- ==== Proof.Frame.lean ====
/- The kernel's run: its proof data, the body's obligation at a generic grid step, and the launch. The results' and the
   codes' blocks are named exactly (`outTiles`, `codesBlock`); of the array of scales, which stays in one staging
   buffer throughout, the steps so far are stated (`RowsDone`). -/
module

public import proofs.«01_k».proof.Proof.Rows
public import Idealize.ShloMosaic.Lib.Claim
public import Idealize.ShloMosaic.Lib.Pipeline.DatRel

@[expose] public section

set_option maxRecDepth 16384

noncomputable section

namespace Cert.KernelIdeal.Hand

open Cert.KernelIdeal Cert.KernelIdeal.Gen Cert.KernelIdeal.Head
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The queries of grid step `t`, as a block of its literal shape; and likewise the keys, the key scales, the values and
    their scales. -/
def xBlk (c : Dev nD) (t : Fin cfg0.N) : Vec F S4x192x256 .bf16 := iblk m c 0 t
@[inherit_doc xBlk] def kBlk (c : Dev nD) (t : Fin cfg0.N) : Vec F S4x2x4x192x128 .fp8e4m3 := iblk m c 1 t
@[inherit_doc xBlk] def ksBlk (c : Dev nD) (t : Fin cfg0.N) : Vec F S4x2x48x128 .f32 := iblk m c 2 t
@[inherit_doc xBlk] def vBlk (c : Dev nD) (t : Fin cfg0.N) : Vec F S4x2x4x192x128 .fp8e4m3 := iblk m c 3 t
@[inherit_doc xBlk] def vsBlk (c : Dev nD) (t : Fin cfg0.N) : Vec F S4x2x48x128 .f32 := iblk m c 4 t

/-- The window of the scales is the one whose contents are held to a predicate. -/
def marked : Fin 8 → Bool := fun w => w.val == 7

/-- The rows of the steps up to `t` are in the array of scales. -/
def RowsDone (c : Dev nD) (t : Fin cfg0.N) (X : Vec F S48x256 .f32) : Prop :=
  ∀ (u : Fin cfg0.N) (q : Fin 48) (j : Fin 256), u.val ≤ t.val → q.val / 4 = u.val →
    X (ix2 q j) = scale (headX (xBlk m c u) ⟨q.val % 4, Nat.mod_lt _ (by decide)⟩) (ix2 0 j)

/-- The predicate of each window; only the scales' matters. -/
def Held (c : Dev nD) (w : Fin cfg0.W) (t : Fin cfg0.N) (X : (cfg0.win w).block.Idx → Elt F (cfg0.win w).elt) : Prop :=
  match w, X with
  | ⟨7, _⟩, X => RowsDone m c t X
  | _, _ => True

/-- The proof data of the one pipeline on core `c`: the arrays as the region finds them (`V`); after the body at
    point `t` each input's buffer at its block, the results' at the step's tiles, the codes' at the step's codes; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTiles (grid0.coords t) (xBlk m c t) (kBlk m c t) (ksBlk m c t) (vBlk m c t) (vsBlk m c t)
    | ⟨6, _⟩ => codesBlock (xBlk m c t)
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outTiles (grid0.coords t) (xBlk m c t) (kBlk m c t) (ksBlk m c t) (vBlk m c t) (vsBlk m c t) := by dsimp only [dats]
theorem after0_6 (c : Dev nD) (t : Fin cfg0.N) : (dats m 0 c).after 6 t = codesBlock (xBlk m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- The staging memref of each window at a point. -/
abbrev ms0_0 (t : Fin cfg0.N) := win0_0.stage (cfg0.slots t 0)
@[inherit_doc ms0_0] abbrev ms0_1 (t : Fin cfg0.N) := win0_1.stage (cfg0.slots t 1)
@[inherit_doc ms0_0] abbrev ms0_2 (t : Fin cfg0.N) := win0_2.stage (cfg0.slots t 2)
@[inherit_doc ms0_0] abbrev ms0_3 (t : Fin cfg0.N) := win0_3.stage (cfg0.slots t 3)
@[inherit_doc ms0_0] abbrev ms0_4 (t : Fin cfg0.N) := win0_4.stage (cfg0.slots t 4)
@[inherit_doc ms0_0] abbrev ms0_5 (t : Fin cfg0.N) := win0_5.stage (cfg0.slots t 5)
@[inherit_doc ms0_0] abbrev ms0_6 (t : Fin cfg0.N) := win0_6.stage (cfg0.slots t 6)
@[inherit_doc ms0_0] abbrev ms0_7 (t : Fin cfg0.N) := win0_7.stage (cfg0.slots t 7)

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜((dats m 0 c).toRRel marked (Held m c)).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜RowsDone m c t X⌝ ∗ owns (c : Thread nD τ) (ms0_7 t) fullShare X))

/-- What the step finds in the array of scales holds the rows of the steps before; so what it leaves holds its own too. -/
theorem rows_step (c : Dev nD) (t : Fin cfg0.N) (Y : Vec F S48x256 .f32)
    (hY : ((dats m 0 c).toRRel marked (Held m c)).Finds 7 t Y) :
    RowsDone m c t (putScales (grid0.coords t) (xBlk m c t) Y) := by
  intro u q j hu hq
  rw [putScales_apply]
  have hc : (grid0.coords t 0).val = t.val := by
    have : ∀ t : Fin grid0.N, (grid0.coords t 0).val = t.val := by decide
    exact this t
  rw [hc]
  by_cases he : q.val / 4 = t.val
  · rw [if_pos he]
    have : u = t := Fin.ext (by omega)
    rw [this]
  · rw [if_neg he]
    have hlt : u.val < t.val := by omega
    have hf := (Pipeline.RDat.finds_of_pos (rd := (dats m 0 c).toRRel marked (Held m c)) (w := 7) (t := t) rfl (by omega) Y).mp hY
    rcases hf with hfl | hl
    · have := (flush0_7 _).mp hfl
      have h12 : t.val < 12 := t.isLt
      simp only at this
      omega
    · have hR : RowsDone m c ⟨t.val - 1, Nat.lt_of_le_of_lt (Nat.sub_le _ _) t.isLt⟩ Y :=
        (dats m 0 c).toRRel_leaves (fgt := marked) (Rl := Held m c) (w := 7) rfl hl
      exact hR u q j (by show u.val ≤ t.val - 1; omega) hq

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, %hd7, H7⟩⟩
  iapply ((run c (grid0.coords t) _ _ _ _ _ _ _ _ _ _ _ _ _ _ _ _ (xBlk m c t) (kBlk m c t) (ksBlk m c t) (vBlk m c t) (vsBlk m c t) d7) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr; swap
  · iexact H7
  · ipureintro; exact rows_step m c t d7 hd7

/-- The body table's row at a point is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) :
    BodyObligationRel (dats (F := F) m 0 c) (defs₀ (F := F)) Variants.none () Set.univ marked (Held m c) := fun t => by
  rw [bigSep_W0, bigSep_W0, defs₀_row]
  exact triple_restated (sound_body m c t) rfl .rfl fun _ => .rfl

/-- The relational proof data of core `c`. -/
abbrev rdat (c : Dev nD) := (dats (F := F) m 0 c).toRRel marked (Held m c)

set_option backward.isDefEq.respectTransparency.types false in
/-- The launch: every execution terminates, with the arrays as the proof data say and every counter at zero. -/
theorem run_main_quiescent : θ_run defs (onTc (τ := τ) (main (F := F))) (s₀ m ρ)
    (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The argument arrays are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main_quiescent m ρ)

end Cert.KernelIdeal.Hand

end
-- ==== Proof.KernelRun.lean ====
/- The body of the printed kernel runs: from whole staging buffers it ends with the inputs as they were and each output at
   some contents, of which nothing is said. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1476000 in
/-- The body's triple: on whole staging memrefs — the inputs' at their contents,
    the FORGOTTEN outputs' (5, 6, 7) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg1 : Memref sig .tc .vmem S4x192x256 .bf16) (harg1 : arg1.IsWhole) (arg2 : Memref sig .tc .vmem S4x2x4x192x128 .fp8e4m3) (harg2 : arg2.IsWhole) (arg3 : Memref sig .tc .vmem S4x2x48x128 .f32) (harg3 : arg3.IsWhole) (arg4 : Memref sig .tc .vmem S4x2x4x192x128 .fp8e4m3) (harg4 : arg4.IsWhole) (arg5 : Memref sig .tc .vmem S4x2x48x128 .f32) (harg5 : arg5.IsWhole) (arg6 : Memref sig .tc .vmem S256x768 .bf16) (harg6 : arg6.IsWhole) (arg7 : Memref sig .tc .vmem S4x192x256 .fp8e4m3) (harg7 : arg7.IsWhole) (arg8 : Memref sig .tc .vmem S48x256 .f32) (harg8 : arg8.IsWhole)
    (x0 : Vec F S4x192x256 .bf16) (x1 : Vec F S4x2x4x192x128 .fp8e4m3) (x2 : Vec F S4x2x48x128 .f32) (x3 : Vec F S4x2x4x192x128 .fp8e4m3) (x4 : Vec F S4x2x48x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_retro_attention i arg1 harg1 arg2 harg2 arg3 harg3 arg4 harg4 arg5 harg5 arg6 harg6 arg7 harg7 arg8 harg8) K := by
    intro E K
    simp only [cc0_retro_attention_eq_skeleton]; unfold cc0_retro_attention_skel
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

end Cert.Kernel.Hand

end
-- ==== Proof.KernelFrame.lean ====
/- The frame of the printed kernel: it terminates without a fault, its argument arrays end unchanged and every counter ends at
   zero. Nothing is said of the outputs (windows 5, 6, 7), whose contents the proof data leaves open. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Each window's current staging memref at point `t`. -/
abbrev ms0_0 (t : Fin cfg0.N) : Memref sig .tc .vmem S4x192x256 .bf16 := win0_0.stage (cfg0.slots t 0)
abbrev ms0_1 (t : Fin cfg0.N) : Memref sig .tc .vmem S4x2x4x192x128 .fp8e4m3 := win0_1.stage (cfg0.slots t 1)
abbrev ms0_2 (t : Fin cfg0.N) : Memref sig .tc .vmem S4x2x48x128 .f32 := win0_2.stage (cfg0.slots t 2)
abbrev ms0_3 (t : Fin cfg0.N) : Memref sig .tc .vmem S4x2x4x192x128 .fp8e4m3 := win0_3.stage (cfg0.slots t 3)
abbrev ms0_4 (t : Fin cfg0.N) : Memref sig .tc .vmem S4x2x48x128 .f32 := win0_4.stage (cfg0.slots t 4)
abbrev ms0_5 (t : Fin cfg0.N) : Memref sig .tc .vmem S256x768 .bf16 := win0_5.stage (cfg0.slots t 5)
abbrev ms0_6 (t : Fin cfg0.N) : Memref sig .tc .vmem S4x192x256 .fp8e4m3 := win0_6.stage (cfg0.slots t 6)
abbrev ms0_7 (t : Fin cfg0.N) : Memref sig .tc .vmem S48x256 .f32 := win0_7.stage (cfg0.slots t 7)

/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main_quiescent m ρ)

end Cert.Kernel.Hand

end
-- ==== Proof.Scores.lean ====
/- The score side of a head, read at an index: the quantised queries, the score products, and the scores and the value
   scales of the blocks of query rows. Everything is indexed by the query `t` and the key `k` of its chunk. -/
module

public import proofs.«01_k».proof.Proof.Head
public import Idealize.ShloMosaic.Lib.Pointwise
public import Idealize.ShloMosaic.PureOps.Ideal

@[expose] public section

set_option maxRecDepth 16384

noncomputable section

namespace Cert.KernelIdeal.Head

open Cert.KernelIdeal Cert.KernelIdeal.Gen
open Idealize.ShloMosaic Idealize.SL.Sem

/-- The padded queries at a query and a column: the quantised value, or zero beyond the 192nd column. -/
theorem qMat_apply (x : FVec Ideal S192x256 .bf16) (t c : Fin 256) :
    qMat x (ix2 t c) = if h : c.val < 192 then values x (ix2 ⟨c.val, h⟩ t) else 0 := by
  pointwise [qMat]

/-- The scale of query `t`, in every column. -/
theorem qScale_apply (x : FVec Ideal S192x256 .bf16) (t c : Fin 256) :
    qScale x (ix2 t c) = scale x (ix2 0 t) := by
  unfold qScale
  generalize scale x = s
  pointwise
  exact dite_eq_ite.trans (ite_self _)

theorem zeros64_apply (j : S64x256.Idx) : (zeros64 (F := Ideal)) j = 0 := Ideal.ofBits_zero .fp8e4m3

/-- The padded keys at a row and a key. -/
theorem padBelow_apply (k : FVec Ideal S192x256 .fp8e4m3) (c l : Fin 256) :
    padBelow k (ix2 c l) = if h : c.val < 192 then k (ix2 ⟨c.val, h⟩ l) else 0 := by
  pointwise [padBelow]
  simp only [zeros64_apply]

theorem padAbove_apply (k : FVec Ideal S192x256 .fp8e4m3) (c l : Fin 256) :
    padAbove k (ix2 c l) = if h : c.val < 64 then 0 else k (ix2 ⟨c.val - 64, by omega⟩ l) := by
  pointwise [padAbove]
  simp only [zeros64_apply]

/-- The product of query `t` with key `l`. -/
def dotQK (x : FVec Ideal S192x256 .bf16) (k : FVec Ideal S192x256 .fp8e4m3) (t l : Fin 256) : EReal :=
  ∑ d : Fin 192, values x (ix2 d t) * k (ix2 d l)

/-- A sum over 256 columns of which the last 64 are zero in both factors. -/
theorem sum_padded (f g : Fin 192 → EReal) :
    (∑ c : Fin 256, (if h : c.val < 192 then f ⟨c.val, h⟩ else 0) * (if h : c.val < 192 then g ⟨c.val, h⟩ else 0))
      = ∑ d : Fin 192, f d * g d := by
  have := Fin.sum_univ_add (M := EReal) (a := 192) (b := 64)
    (fun c : Fin (192 + 64) => (if h : c.val < 192 then f ⟨c.val, h⟩ else 0) * (if h : c.val < 192 then g ⟨c.val, h⟩ else 0))
  refine Eq.trans this ?_
  simp

/-- 96 rows of scores. -/
theorem score96_apply (o : Nat) (h : Shape.Slices S256x256 ![o, 0] S96x256) (x : FVec Ideal S192x256 .bf16)
    (k : FVec Ideal S192x256 .fp8e4m3) (r : Fin 96) (l t : Fin 256) (ht : t.val = o + r.val) :
    score96 o h x k (ix2 r l) = dotQK x k t l := by
  have e : (⟨o + r.val, by rw [← ht]; exact t.isLt⟩ : Fin 256) = t := Fin.ext ht.symm
  pointwise [score96]
  rw [dotQK, ← sum_padded]
  refine Finset.sum_congr rfl fun c _ => ?_
  rw [e, qMat_apply, padBelow_apply]

/-- The last 32 rows. -/
theorem score32_apply (x : FVec Ideal S192x256 .bf16)
    (k : FVec Ideal S192x256 .fp8e4m3) (r : Fin 32) (l t : Fin 256) (ht : t.val = 224 + r.val) :
    score32 x k (ix2 r l) = dotQK x k t l := by
  have e : (⟨224 + r.val, by omega⟩ : Fin 256) = t := Fin.ext ht.symm
  pointwise [score32]
  rw [dotQK, ← sum_padded]
  refine Finset.sum_congr rfl fun c _ => ?_
  rw [e, qMat_apply, padBelow_apply]

/-- The mask of the last of eight rows. -/
theorem isLast_apply (r : Fin 8) (l : Fin 256) : isLast (ix2 r l) = if r.val = 7 then 1#1 else 0#1 := by
  fin_cases r <;> rfl

/-- The scores of a block of rows. -/
theorem scoreBlock_apply (prev : FVec Ideal S96x256 .f32) (tail : FVec Ideal S8x256 .f32)
    (kp kt : FVec Ideal S1x256 .f32) (r : Fin 64) (l : Fin 256) :
    scoreBlock prev tail kp kt (ix2 r l) = if r.val = 63 then tail (ix2 7 l) * kt (ix2 0 l)
      else prev (ix2 ⟨32 + r.val, by omega⟩ l) * kp (ix2 0 l) := by
  pointwise [scoreBlock]
  simp only [isLast_apply]
  by_cases h63 : r.val = 63
  · obtain rfl : r = 63 := Fin.ext h63
    rfl
  · have h7 : ¬ r.val - 56 = 7 := by omega
    simp only [h63, h7, ↓reduceIte, ValueIdx.select_zero]
    split
    · rfl
    · rename_i h
      refine Ideal.mul_congr (congrArg (fun c => prev (ix2 c l)) (Fin.ext ?_)) rfl
      show 32 + (56 + (r.val - 56)) = 32 + r.val
      replace h : ¬ r.val < 56 := h
      omega

/-- The value scales of a block of rows. -/
theorem valueScales_apply (vp vt : FVec Ideal S1x256 .f32) (r : Fin 64) (l : Fin 256) :
    valueScales vp vt (ix2 r l) = if r.val = 63 then vt (ix2 0 l) else vp (ix2 0 l) := by
  pointwise [valueScales]
  simp only [isLast_apply]
  by_cases h63 : r.val = 63
  · obtain rfl : r = 63 := Fin.ext h63
    rfl
  · have h7 : ¬ r.val - 56 = 7 := by omega
    simp only [h63, h7, ↓reduceIte, ValueIdx.select_zero]
    exact dite_eq_ite.trans (ite_self _)

/-- Minus infinity, the least extended real, is what a maximum starts from. -/
theorem ofBits_negInf : Ideal.ofBits .f32 0xFF800000#32 = ⊥ := by
  simp [Ideal.ofBits, Ideal.ieee]

/-- The softmax of one row, taken to base two. -/
def row (w : Fin 256 → EReal) (l : Fin 256) : EReal :=
  have z := fun l => Ideal.exp2 (w l - Finset.univ.fold max ⊥ w)
  z l * Ideal.div 1 (∑ l, z l)

/-- The probabilities of a block of rows. -/
theorem probs_apply (s qs vs : FVec Ideal S64x256 .f32) (r : Fin 64) (l : Fin 256) :
    probs s qs vs (ix2 r l) = row (fun l => s (ix2 r l) * qs (ix2 r l)) l * vs (ix2 r l) := by
  pointwise [probs, row]
  rw [ofBits_negInf]
  rfl

/-- The probabilities of the last row of the first block. -/
theorem probs0_apply (s : FVec Ideal S96x256 .f32) (kn vs : FVec Ideal S1x256 .f32) (qs : FVec Ideal S256x256 .f32)
    (l : Fin 256) : probs0 s kn vs qs (ix2 15 l)
      = row (fun l => s (ix2 31 l) * kn (ix2 0 l) * qs (ix2 63 l)) l * vs (ix2 0 l) := by
  pointwise [probs0, row]
  rw [ofBits_negInf]
  rfl

end Cert.KernelIdeal.Head

end
-- ==== Proof.Search.lean ====
module

public import proofs.«01_k».proof.Proof.Scores

@[expose] public section

/-!
The kernel's search for the exponent of a level, read as arithmetic.

A 32-bit word that holds `n` in the exponent field and nothing else is the float `2 ^ (n - 127)`
(`0` for `n = 0`, `⊤` for `n = 255`).  The kernel tries the eight bits of the field from the top
down and keeps a bit when the float it makes is not above the level, so it ends with the largest
`n` whose float is not above the level.
-/

set_option maxRecDepth 16384

noncomputable section

namespace Cert.KernelIdeal.Head

open Cert.KernelIdeal Cert.KernelIdeal.Gen
open Idealize.ShloMosaic Idealize.SL.Sem

/-- The float whose exponent field is `e` and whose other fields are `0`. -/
def power (e : BitVec 32) : EReal := Ideal.ofBits .f32 (IntOp.shli ArithUnit.vector e 23#32)

/-- The exponent field, the fraction and the sign of a word that holds `n` in its exponent field. -/
theorem power_fields : ∀ n : Fin 256,
    ((IntOp.shli ArithUnit.vector (BitVec.ofNat 32 n.val) 23#32).extractLsb' 23 8).toNat = n.val ∧
    ((IntOp.shli ArithUnit.vector (BitVec.ofNat 32 n.val) 23#32).extractLsb' 0 23).toNat = 0 ∧
    ((IntOp.shli ArithUnit.vector (BitVec.ofNat 32 n.val) 23#32).extractLsb' 31 1 == 1#1)
      = false := by
  decide +kernel

/-- Exponent field `0` is the float `0`. -/
theorem power_zero : power (BitVec.ofNat 32 0) = 0 := by
  obtain ⟨h1, h2, h3⟩ := power_fields 0
  simp only [Fin.val_zero] at h1 h2 h3
  unfold power
  simp [Ideal.ofBits, Ideal.ieee, h1, h2, h3]

/-- An exponent field `n` between `1` and `254` is the float `2 ^ (n - 127)`. -/
theorem power_eq (n : ℕ) (h0 : 1 ≤ n) (h : n ≤ 254) :
    power (BitVec.ofNat 32 n) = (((2 : ℝ) ^ ((n : ℤ) - 127) : ℝ) : EReal) := by
  obtain ⟨h1, h2, h3⟩ := power_fields ⟨n, by omega⟩
  simp only at h1 h2 h3
  unfold power
  simp only [Ideal.ofBits, Ideal.ieee, h1, h2, h3]
  rw [if_neg (by norm_num; omega), if_neg (by omega)]
  refine EReal.coe_eq_coe_iff.mpr ?_
  have : ((n : ℤ) - 127) = ((n : ℤ) - 127 - 23) + 23 := by ring
  rw [this, zpow_add₀ (by norm_num : (2 : ℝ) ≠ 0)]
  norm_num
  ring

/-- One step of the search: keep `bit` when the float of `e + bit` is not above `y`. -/
def bitStep (y : EReal) (bit e : BitVec 32) : BitVec 32 :=
  if y < power (IntOp.addi e bit) then e else IntOp.addi e bit

/-- The whole search, over the eight bits of the field from the top down. -/
def search (y : EReal) : BitVec 32 :=
  bitStep y 1#32 (bitStep y 2#32 (bitStep y 4#32 (bitStep y 8#32 (bitStep y 16#32
    (bitStep y 32#32 (bitStep y 64#32 (bitStep y 128#32 0#32)))))))

/-- The kernel's step on a row of levels is the step on each level. -/
theorem tryBit_apply (y : FVec Ideal S1x256 .f32) (bit : BitVec 32) (e : IVec S1x256 32)
    (t : Fin 256) : tryBit y bit e (ix2 0 t) = bitStep (y (ix2 0 t)) bit (e (ix2 0 t)) := by
  pointwise [tryBit]
  rfl

/-- The kernel's search on a row of levels is the search on each level. -/
theorem expo_apply (y : FVec Ideal S1x256 .f32) (t : Fin 256) :
    expo y (ix2 0 t) = search (y (ix2 0 t)) := by
  unfold expo search
  simp only [tryBit_apply]
  rfl

/-- What holds when the bits down to the value `b` have been tried: `E` is a sum of those bits, its
float is not above `y`, and the float `b` steps further is. -/
def Tried (y : EReal) (b : ℕ) (e : BitVec 32) : Prop :=
  ∃ E : ℕ, e = BitVec.ofNat 32 E ∧ E + b ≤ 256 ∧ power (BitVec.ofNat 32 E) ≤ y ∧
    (E + b = 256 ∨ y < power (BitVec.ofNat 32 (E + b)))

/-- A step halves the gap. -/
theorem tried_step (y : EReal) (b : ℕ) (e : BitVec 32) (h : Tried y (b + b) e) :
    Tried y b (bitStep y (BitVec.ofNat 32 b) e) := by
  obtain ⟨E, rfl, hle, hlo, hhi⟩ := h
  have hadd : IntOp.addi (BitVec.ofNat 32 E) (BitVec.ofNat 32 b) = BitVec.ofNat 32 (E + b) := by
    simp [IntOp.addi, BitVec.ofNat_add]
  unfold bitStep
  rw [hadd]
  by_cases hy : y < power (BitVec.ofNat 32 (E + b))
  · rw [if_pos hy]
    exact ⟨E, rfl, by omega, hlo, Or.inr hy⟩
  · rw [if_neg hy]
    refine ⟨E + b, rfl, by omega, not_lt.mp hy, ?_⟩
    rw [add_assoc]
    exact hhi

/-- The search ends with the largest exponent field whose float is not above `y`. -/
theorem search_spec (y : EReal) (hy : 0 ≤ y) : Tried y 1 (search y) := by
  have h : Tried y 256 0#32 := ⟨0, rfl, by omega, by rw [power_zero]; exact hy, Or.inl rfl⟩
  exact tried_step y 1 _ (tried_step y 2 _ (tried_step y 4 _ (tried_step y 8 _
    (tried_step y 16 _ (tried_step y 32 _ (tried_step y 64 _ (tried_step y 128 _ h)))))))

/-- The exponent the kernel makes of a search result. -/
def shifted (e : BitVec 32) : BitVec 32 :=
  Scalar.select (IntOp.cmpi CmpIPredicate.eq e 0#32) 0#32 (IntOp.subi e 126#32)

/-- The scale's word and the inverse scale's word, of a search result `0`. -/
theorem shifted_zero :
    IntOp.addi (shifted (BitVec.ofNat 32 0)) 127#32 = BitVec.ofNat 32 127 ∧
    IntOp.subi 127#32 (shifted (BitVec.ofNat 32 0)) = BitVec.ofNat 32 127 := by
  decide +kernel

theorem shifted_fin : ∀ E : Fin 253, E.val ≠ 0 →
    IntOp.addi (shifted (BitVec.ofNat 32 E.val)) 127#32 = BitVec.ofNat 32 (E.val + 1) ∧
    IntOp.subi 127#32 (shifted (BitVec.ofNat 32 E.val)) = BitVec.ofNat 32 (253 - E.val) := by
  decide +kernel

/-- The kernel's scale of a row of levels, at one level. -/
theorem scaleExp_apply (y : FVec Ideal S1x256 .f32) (t : Fin 256) :
    scaleExp y (ix2 0 t) = shifted (search (y (ix2 0 t))) := by
  rw [← expo_apply]
  unfold scaleExp
  generalize expo y = e
  pointwise
  rfl

/-- The kernel's scale of a query, from its level. -/
theorem scale_apply (x : FVec Ideal S192x256 .bf16) (t : Fin 256) :
    scale x (ix2 0 t)
      = power (IntOp.addi (shifted (search (amax x (ix2 0 t)))) 127#32) := by
  rw [← scaleExp_apply]
  unfold scale
  generalize scaleExp (amax x) = e
  pointwise
  rfl

/-- The kernel's inverse scale of a query, from its level. -/
theorem inverse_apply (x : FVec Ideal S192x256 .bf16) (t : Fin 256) :
    inverse x (ix2 0 t)
      = power (IntOp.subi 127#32 (shifted (search (amax x (ix2 0 t))))) := by
  rw [← scaleExp_apply]
  unfold inverse
  generalize scaleExp (amax x) = e
  pointwise
  rfl

/-- The kernel's code of an entry: the entry by the inverse scale, cut to `[-448, 448]`. -/
theorem values_apply (x : FVec Ideal S192x256 .bf16) (d : Fin 192) (t : Fin 256) :
    values x (ix2 d t)
      = min (Ideal.ofBits .f32 0x43E00000#32) (max (Ideal.ofBits .f32 0xC3E00000#32)
          (x (ix2 d t) * inverse x (ix2 0 t))) := by
  unfold values
  generalize inverse x = e
  pointwise

end Cert.KernelIdeal.Head
end
-- ==== Proof.RefStages.lean ====
/- The reference's lines after its launch, in stages: what each stage leaves, read at an index. -/
module

public import proofs.«01_k».proof.Proof.Gen.ReferenceIdeal.Frame
public import Idealize.ShloMosaic.Lib.Pointwise
public import Idealize.ShloMosaic.Lib.StableHlo.ReadAt

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- The lines after the launch from the `n`-th on, `k` of them. -/
abbrev lines (n k : Nat) : List (HloOp τ sig (Elt Ideal)) := ((hostOps1 (F := Ideal)).drop n).take k

/-- The sum of the products of two families. -/
def dotOf {n : Nat} (a b : Fin n → EReal) : EReal := ∑ i, a i * b i

variable (W : Valuation τ sig (Elt Ideal))

/-- The queries' rows from the 63rd on. -/
theorem rows63 (q : Fin 193) (h : Fin 48) (d : Fin 192) :
    (StableHlo.after (lines 0 3) W (Proc.devRef .tc main_v27) : Vec Ideal S1x193x48x192 .f32) (ix4 0 q h d)
      = (W (Proc.devRef .tc main_v26_1) : Vec Ideal S1x256x48x192 .f32) (ix4 0 ⟨63 + q.val, by omega⟩ h d) := by
  simp only [lines, hostOps1, List.drop_succ_cons, List.drop_zero, List.take_succ_cons, List.take_zero]
  after_reads_at

/-- The 63 rows of zeros. -/
theorem rowsZero (q : Fin 63) (h : Fin 48) (d : Fin 192) :
    (StableHlo.after (lines 0 3) W (Proc.devRef .tc main_v28) : Vec Ideal S1x63x48x192 .f32) (ix4 0 q h d)
      = (0 : EReal) := by
  simp only [lines, hostOps1, List.drop_succ_cons, List.drop_zero, List.take_succ_cons, List.take_zero]
  after_reads_at

/-- The shifted rows: the rows, then the zeros. -/
theorem rowsCat (q : Fin 256) (h : Fin 48) (d : Fin 192) :
    (StableHlo.after (lines 3 4) W (Proc.devRef .tc main_v29) : Vec Ideal S1x256x48x192 .f32) (ix4 0 q h d)
      = (if hq : q.val < 193 then (W (Proc.devRef .tc main_v27) : Vec Ideal S1x193x48x192 .f32) (ix4 0 ⟨q.val, hq⟩ h d)
      else (W (Proc.devRef .tc main_v28) : Vec Ideal S1x63x48x192 .f32) (ix4 0 ⟨q.val - 193, by omega⟩ h d) : EReal) := by
  simp only [lines, hostOps1, List.drop_succ_cons, List.drop_zero, List.take_succ_cons, List.take_zero]
  after_reads_at

/-- The queries' scales from the 63rd row on. -/
theorem scales63 (q : Fin 193) (h : Fin 48) :
    (StableHlo.after (lines 3 4) W (Proc.devRef .tc main_v30) : Vec Ideal S1x193x48 .f32) (ix3 0 q h)
      = (W (Proc.devRef .tc main_v17) : Vec Ideal S1x256x48 .f32) (ix3 0 ⟨63 + q.val, by omega⟩ h) := by
  simp only [lines, hostOps1, List.drop_succ_cons, List.drop_zero, List.take_succ_cons, List.take_zero]
  after_reads_at

/-- The 63 rows of ones. -/
theorem scalesOne (q : Fin 63) (h : Fin 48) :
    (StableHlo.after (lines 3 4) W (Proc.devRef .tc main_v31) : Vec Ideal S1x63x48 .f32) (ix3 0 q h)
      = Ideal.ofBits .f32 0x3F800000#32 := by
  simp only [lines, hostOps1, List.drop_succ_cons, List.drop_zero, List.take_succ_cons, List.take_zero]
  after_reads_at

/-- The shifted scales: the scales, then the ones. -/
theorem scalesCat (q : Fin 256) (h : Fin 48) :
    (StableHlo.after (lines 7 1) W (Proc.devRef .tc main_v32) : Vec Ideal S1x256x48 .f32) (ix3 0 q h)
      = (if hq : q.val < 193 then (W (Proc.devRef .tc main_v30) : Vec Ideal S1x193x48 .f32) (ix3 0 ⟨q.val, hq⟩ h)
      else (W (Proc.devRef .tc main_v31) : Vec Ideal S1x63x48 .f32) (ix3 0 ⟨q.val - 193, by omega⟩ h) : EReal) := by
  simp only [lines, hostOps1, List.drop_succ_cons, List.drop_zero, List.take_succ_cons, List.take_zero]
  after_reads_at

/-- The scores: the products of queries and keys, scaled. -/
theorem scoresAt (u : Fin 4) (q : Fin 64) (h : Fin 48) (k : Fin 256) :
    (StableHlo.after (lines 8 21) W (Proc.devRef .tc main_v52) : Vec Ideal S1x4x64x48x256 .f32) (ix5 0 u q h k)
      = (Ideal.div (dotOf (fun d : Fin 192 => (W (Proc.devRef .tc main_v26_2) : Vec Ideal S1x4x2x128x48x192 .f32) (ix6 0 u ⟨k.val / 128, by omega⟩ ⟨k.val % 128, Nat.mod_lt _ (by decide)⟩ h d))
          (fun d => (W (Proc.devRef .tc main_v29) : Vec Ideal S1x256x48x192 .f32) (ix4 0 ⟨u.val * 64 + q.val, by omega⟩ h d))
        * (W (Proc.devRef .tc main_v32) : Vec Ideal S1x256x48 .f32) (ix3 0 ⟨u.val * 64 + q.val, by omega⟩ h)
        * (W (Proc.devRef .tc main_arg2) : Vec Ideal S1x4x2x128x48 .f32) (ix5 0 u ⟨k.val / 128, by omega⟩ ⟨k.val % 128, Nat.mod_lt _ (by decide)⟩ h))
      (Ideal.sqrt (Ideal.ofBits .f32 0x43400000#32)) : EReal) := by
  simp only [lines, hostOps1, List.drop_succ_cons, List.drop_zero, List.take_succ_cons, List.take_zero]
  after_reads_at
  rfl

/-- The values' scales, one row per head. -/
theorem vscalesAt (u : Fin 4) (h : Fin 48) (k : Fin 256) :
    (StableHlo.after (lines 8 21) W (Proc.devRef .tc main_v42) : Vec Ideal S1x4x1x48x256 .f32) (ix5 0 u 0 h k)
      = (W (Proc.devRef .tc main_arg4) : Vec Ideal S1x4x2x128x48 .f32) (ix5 0 u ⟨k.val / 128, by omega⟩ ⟨k.val % 128, Nat.mod_lt _ (by decide)⟩ h) := by
  simp only [lines, hostOps1, List.drop_succ_cons, List.drop_zero, List.take_succ_cons, List.take_zero]
  after_reads_at

/-- The values, the two neighbours in one axis. -/
theorem valuesAt (u : Fin 4) (k : Fin 256) (h : Fin 48) (d : Fin 192) :
    (StableHlo.after (lines 8 21) W (Proc.devRef .tc main_v39) : Vec Ideal S1x4x256x48x192 .bf16) (ix5 0 u k h d)
      = (W (Proc.devRef .tc main_v26_3) : Vec Ideal S1x4x2x128x48x192 .bf16) (ix6 0 u ⟨k.val / 128, by omega⟩ ⟨k.val % 128, Nat.mod_lt _ (by decide)⟩ h d) := by
  simp only [lines, hostOps1, List.drop_succ_cons, List.drop_zero, List.take_succ_cons, List.take_zero]
  after_reads_at

/-- One entry of a softmax row: the exponential of the score less the row's maximum, times one over their sum. -/
def softRow (s : Fin 256 → EReal) (k : Fin 256) : EReal :=
  Ideal.exp (s k - Finset.univ.fold max (Ideal.ofBits .f32 0xFF800000#32) s)
    * Ideal.div 1 (∑ l : Fin 256, Ideal.exp (s l - Finset.univ.fold max (Ideal.ofBits .f32 0xFF800000#32) s))

/-- The softmax times the values' scales. -/
theorem probsAt (u : Fin 4) (q : Fin 64) (h : Fin 48) (k : Fin 256) :
    (StableHlo.after (lines 29 17) W (Proc.devRef .tc main_v66) : Vec Ideal S1x4x64x48x256 .bf16) (ix5 0 u q h k)
      = (softRow (fun l => (W (Proc.devRef .tc main_v52) : Vec Ideal S1x4x64x48x256 .f32) (ix5 0 u q h l)) k
        * (W (Proc.devRef .tc main_v42) : Vec Ideal S1x4x1x48x256 .f32) (ix5 0 u 0 h k) : EReal) := by
  simp only [lines, hostOps1, List.drop_succ_cons, List.drop_zero, List.take_succ_cons, List.take_zero]
  after_reads_at
  rfl

/-- The output rows before the shift back. -/
theorem outRows (q : Fin 193) (j : Fin 9216) :
    (StableHlo.after (lines 46 6) W (Proc.devRef .tc main_v70) : Vec Ideal S1x193x9216 .f32) (ix3 0 q j)
      = dotOf (fun k : Fin 256 => (W (Proc.devRef .tc main_v39) : Vec Ideal S1x4x256x48x192 .bf16) (ix5 0 ⟨q.val / 64, by omega⟩ k ⟨j.val / 192, by omega⟩ ⟨j.val % 192, Nat.mod_lt _ (by decide)⟩))
        (fun k => (W (Proc.devRef .tc main_v66) : Vec Ideal S1x4x64x48x256 .bf16) (ix5 0 ⟨q.val / 64, by omega⟩ ⟨q.val % 64, Nat.mod_lt _ (by decide)⟩ ⟨j.val / 192, by omega⟩ k)) := by
  simp only [lines, hostOps1, List.drop_succ_cons, List.drop_zero, List.take_succ_cons, List.take_zero]
  after_reads_at
  rfl

/-- The 63 rows of zeros before the output. -/
theorem outZero (q : Fin 63) (j : Fin 9216) :
    (StableHlo.after (lines 46 6) W (Proc.devRef .tc main_v71) : Vec Ideal S1x63x9216 .f32) (ix3 0 q j)
      = (0 : EReal) := by
  simp only [lines, hostOps1, List.drop_succ_cons, List.drop_zero, List.take_succ_cons, List.take_zero]
  after_reads_at

/-- The output: the zeros, then the rows. -/
theorem outCat (t : Fin 256) (j : Fin 9216) :
    (StableHlo.after (lines 52 1) W (Proc.devRef .tc main_v72) : Vec Ideal S1x256x9216 .f32) (ix3 0 t j)
      = (if ht : t.val < 63 then (W (Proc.devRef .tc main_v71) : Vec Ideal S1x63x9216 .f32) (ix3 0 ⟨t.val, ht⟩ j)
      else (W (Proc.devRef .tc main_v70) : Vec Ideal S1x193x9216 .f32) (ix3 0 ⟨t.val - 63, by omega⟩ j) : EReal) := by
  simp only [lines, hostOps1, List.drop_succ_cons, List.drop_zero, List.take_succ_cons, List.take_zero]
  after_reads_at

/-- The output without its leading axis. -/
theorem outAt (t : Fin 256) (j : Fin 9216) :
    (StableHlo.after (lines 53 6) W (Proc.devRef .tc main_v74) : Vec Ideal S256x9216 .bf16) (ix2 t j)
      = (W (Proc.devRef .tc main_v72) : Vec Ideal S1x256x9216 .f32) (ix3 0 t j) := by
  simp only [lines, hostOps1, List.drop_succ_cons, List.drop_zero, List.take_succ_cons, List.take_zero]
  after_reads_at

/-- The codes, a head's columns first. -/
theorem codesAt (h : Fin 48) (d : Fin 192) (q : Fin 256) :
    (StableHlo.after (lines 0 59) W (Proc.devRef .tc main_v76) : Vec Ideal S48x192x256 .fp8e4m3) (ix3 h d q)
      = (W (Proc.devRef .tc main_v26_0) : Vec Ideal S1x256x48x192 .fp8e4m3) (ix4 0 q h d) := by
  simp only [lines, hostOps1, List.drop_succ_cons, List.drop_zero, List.take_succ_cons, List.take_zero]
  after_reads_at

/-- The queries' scales, a head's row each. -/
theorem scalesAt (h : Fin 48) (q : Fin 256) :
    (StableHlo.after (lines 0 59) W (Proc.devRef .tc main_v78) : Vec Ideal S48x256 .f32) (ix2 h q)
      = (W (Proc.devRef .tc main_v17) : Vec Ideal S1x256x48 .f32) (ix3 0 q h) := by
  simp only [lines, hostOps1, List.drop_succ_cons, List.drop_zero, List.take_succ_cons, List.take_zero]
  after_reads_at

/-! What a stage does not write it keeps. -/

theorem keep_main_v17_0 : (StableHlo.after (lines 0 3) W (Proc.devRef .tc main_v17) : Vec Ideal S1x256x48 .f32) = W (Proc.devRef .tc main_v17) := by
  simp only [lines, hostOps1, List.drop_succ_cons, List.drop_zero, List.take_succ_cons, List.take_zero]
  after_reads_simp

theorem keep_main_v29_7 : (StableHlo.after (lines 7 1) W (Proc.devRef .tc main_v29) : Vec Ideal S1x256x48x192 .f32) = W (Proc.devRef .tc main_v29) := by
  simp only [lines, hostOps1, List.drop_succ_cons, List.drop_zero, List.take_succ_cons, List.take_zero]
  after_reads_simp

theorem keep_main_v26_2_0 : (StableHlo.after (lines 0 8) W (Proc.devRef .tc main_v26_2) : Vec Ideal S1x4x2x128x48x192 .f32) = W (Proc.devRef .tc main_v26_2) := by
  simp only [lines, hostOps1, List.drop_succ_cons, List.drop_zero, List.take_succ_cons, List.take_zero]
  after_reads_simp

theorem keep_main_v26_3_0 : (StableHlo.after (lines 0 8) W (Proc.devRef .tc main_v26_3) : Vec Ideal S1x4x2x128x48x192 .bf16) = W (Proc.devRef .tc main_v26_3) := by
  simp only [lines, hostOps1, List.drop_succ_cons, List.drop_zero, List.take_succ_cons, List.take_zero]
  after_reads_simp

theorem keep_main_arg2_0 : (StableHlo.after (lines 0 8) W (Proc.devRef .tc main_arg2) : Vec Ideal S1x4x2x128x48 .f32) = W (Proc.devRef .tc main_arg2) := by
  simp only [lines, hostOps1, List.drop_succ_cons, List.drop_zero, List.take_succ_cons, List.take_zero]
  after_reads_simp

theorem keep_main_arg4_0 : (StableHlo.after (lines 0 8) W (Proc.devRef .tc main_arg4) : Vec Ideal S1x4x2x128x48 .f32) = W (Proc.devRef .tc main_arg4) := by
  simp only [lines, hostOps1, List.drop_succ_cons, List.drop_zero, List.take_succ_cons, List.take_zero]
  after_reads_simp

theorem keep_main_v39_29 : (StableHlo.after (lines 29 17) W (Proc.devRef .tc main_v39) : Vec Ideal S1x4x256x48x192 .bf16) = W (Proc.devRef .tc main_v39) := by
  simp only [lines, hostOps1, List.drop_succ_cons, List.drop_zero, List.take_succ_cons, List.take_zero]
  after_reads_simp

/-- The first eight lines, in three stages. -/
theorem after_eight : StableHlo.after (lines 0 8) W
    = StableHlo.after (lines 7 1) (StableHlo.after (lines 3 4) (StableHlo.after (lines 0 3) W)) := by
  rw [← StableHlo.after_append, ← StableHlo.after_append]
  rfl

/-- All the lines, in six stages. -/
theorem after_all : StableHlo.after (lines 0 59) W
    = StableHlo.after (lines 53 6) (StableHlo.after (lines 52 1) (StableHlo.after (lines 46 6) (StableHlo.after (lines 29 17)
        (StableHlo.after (lines 8 21) (StableHlo.after (lines 0 8) W))))) := by
  rw [← StableHlo.after_append, ← StableHlo.after_append, ← StableHlo.after_append, ← StableHlo.after_append, ← StableHlo.after_append]
  rfl

end Cert.ReferenceIdeal.Hand

end
-- ==== Proof.RefTail.lean ====
/- The reference's results at an index, from what its launch leaves. -/
module

public import proofs.«01_k».proof.Proof.RefStages

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable (W : Valuation τ sig (Elt Ideal))

/-- Head `h`'s score of query row `t` against key `k` of chunk `u`. -/
def scoreOf (t : Fin 256) (u : Fin 4) (h : Fin 48) (k : Fin 256) : EReal :=
  Ideal.div (dotOf (fun d : Fin 192 => (W (Proc.devRef .tc main_v26_2) : Vec Ideal S1x4x2x128x48x192 .f32)
          (ix6 0 u ⟨k.val / 128, by omega⟩ ⟨k.val % 128, Nat.mod_lt _ (by decide)⟩ h d))
        (fun d => (W (Proc.devRef .tc main_v26_1) : Vec Ideal S1x256x48x192 .f32) (ix4 0 t h d))
      * (W (Proc.devRef .tc main_v17) : Vec Ideal S1x256x48 .f32) (ix3 0 t h)
      * (W (Proc.devRef .tc main_arg2) : Vec Ideal S1x4x2x128x48 .f32)
          (ix5 0 u ⟨k.val / 128, by omega⟩ ⟨k.val % 128, Nat.mod_lt _ (by decide)⟩ h))
    (Ideal.sqrt (Ideal.ofBits .f32 0x43400000#32))

/-- The chunk that query row `t` attends to. -/
def chunkOf (t : Fin 256) : Fin 4 := ⟨(t.val - 63) / 64, by omega⟩

/-- The output at row `t`, head `h`, column `d`: zero for the first 63 rows, else attention over the row's chunk. -/
def refOut (t : Fin 256) (h : Fin 48) (d : Fin 192) : EReal :=
  if t.val < 63 then 0 else
    dotOf (fun k : Fin 256 => (W (Proc.devRef .tc main_v26_3) : Vec Ideal S1x4x2x128x48x192 .bf16)
        (ix6 0 (chunkOf t) ⟨k.val / 128, by omega⟩ ⟨k.val % 128, Nat.mod_lt _ (by decide)⟩ h d))
      (fun k => softRow (fun l => scoreOf W t (chunkOf t) h l) k
        * (W (Proc.devRef .tc main_arg4) : Vec Ideal S1x4x2x128x48 .f32)
          (ix5 0 (chunkOf t) ⟨k.val / 128, by omega⟩ ⟨k.val % 128, Nat.mod_lt _ (by decide)⟩ h))

/-- A shifted row that comes from the queries. -/
theorem row_at (q : Fin 256) (h : Fin 48) (d : Fin 192) (t : Fin 256) (hq : q.val < 193) (ht : t.val = 63 + q.val) :
    (StableHlo.after (lines 0 8) W (Proc.devRef .tc main_v29) : Vec Ideal S1x256x48x192 .f32) (ix4 0 q h d)
      = (W (Proc.devRef .tc main_v26_1) : Vec Ideal S1x256x48x192 .f32) (ix4 0 t h d) := by
  rw [after_eight, keep_main_v29_7]
  refine (rowsCat _ q h d).trans ?_
  rw [dif_pos hq]
  refine (rows63 W _ h d).trans ?_
  rw [show (⟨63 + q.val, by omega⟩ : Fin 256) = t from Fin.ext ht.symm]

/-- A shifted scale that comes from the queries. -/
theorem scale_at (q : Fin 256) (h : Fin 48) (t : Fin 256) (hq : q.val < 193) (ht : t.val = 63 + q.val) :
    (StableHlo.after (lines 0 8) W (Proc.devRef .tc main_v32) : Vec Ideal S1x256x48 .f32) (ix3 0 q h)
      = (W (Proc.devRef .tc main_v17) : Vec Ideal S1x256x48 .f32) (ix3 0 t h) := by
  rw [after_eight]
  refine (scalesCat _ q h).trans ?_
  rw [dif_pos hq]
  refine (scales63 _ _ h).trans ?_
  rw [keep_main_v17_0, show (⟨63 + q.val, by omega⟩ : Fin 256) = t from Fin.ext ht.symm]

/-- A score of a row that comes from the queries. -/
theorem score_at (u : Fin 4) (q : Fin 64) (h : Fin 48) (k : Fin 256) (t : Fin 256) (ht : t.val = 63 + (u.val * 64 + q.val)) :
    (StableHlo.after (lines 8 21) (StableHlo.after (lines 0 8) W) (Proc.devRef .tc main_v52) : Vec Ideal S1x4x64x48x256 .f32)
      (ix5 0 u q h k) = scoreOf W t u h k := by
  refine (scoresAt _ u q h k).trans ?_
  have ht' := t.isLt
  unfold scoreOf
  rw [keep_main_v26_2_0, keep_main_arg2_0, scale_at W _ h t (by show u.val * 64 + q.val < 193; omega) ht]
  refine congrArg (fun x => Ideal.div (x * _ * _) _) (congrArg (dotOf _) (funext fun d => ?_))
  exact row_at W _ h d t (by show u.val * 64 + q.val < 193; omega) ht

/-- The output at a row and a column. -/
theorem out_at (t : Fin 256) (j : Fin 9216) :
    (StableHlo.after (lines 0 59) W (Proc.devRef .tc main_v74) : Vec Ideal S256x9216 .bf16) (ix2 t j)
      = refOut W t ⟨j.val / 192, by omega⟩ ⟨j.val % 192, Nat.mod_lt _ (by decide)⟩ := by
  rw [after_all]
  refine (outAt _ t j).trans ((outCat _ t j).trans ?_)
  unfold refOut
  by_cases h : t.val < 63
  · rw [dif_pos h, if_pos h]
    exact outZero _ _ j
  · rw [dif_neg h, if_neg h]
    refine (outRows _ _ j).trans ?_
    refine congrArg₂ dotOf (funext fun k => ?_) (funext fun k => ?_)
    · rw [keep_main_v39_29]
      refine (valuesAt _ _ k _ _).trans ?_
      rw [keep_main_v26_3_0]
      rfl
    · refine (probsAt _ _ _ _ k).trans ?_
      refine congrArg₂ (· * ·) (congrFun (congrArg softRow (funext fun l => ?_)) k) ?_
      · exact score_at W _ _ _ l t (by
          show t.val = 63 + ((t.val - 63) / 64 * 64 + (t.val - 63) % 64); omega)
      · refine (vscalesAt _ _ _ k).trans ?_
        rw [keep_main_arg4_0]
        rfl

end Cert.ReferenceIdeal.Hand

end
-- ==== Proof.RefEntry.lean ====
/- What the reference holds when its launch starts: the queries' scales and the scaled, clipped queries, at an index. -/
module

public import proofs.«01_k».proof.Proof.Gen.ReferenceIdeal.Frame
public import Idealize.ShloMosaic.Lib.Pointwise
public import Idealize.ShloMosaic.Lib.StableHlo.ReadAt

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- A magnitude over 448: the level that a row's scale is taken from. -/
def levelOf (a : EReal) : EReal := a * Ideal.ofBits .f32 0x3B124925#32

/-- The largest of a row. -/
def largest (x : Fin 192 → EReal) : EReal := Finset.univ.fold max (Ideal.ofBits .f32 0xFF800000#32) x

/-- Whether a level lies below the least normal. -/
def smallBit (y : EReal) : BitVec 1 := BitVec.ofBool (decide (y < Ideal.ofBits .f32 0x00800000#32))

/-- The logarithm of two. -/
def logTwo : EReal := Ideal.log (Ideal.ofBits .f32 0x40000000#32)

/-- One more than a level's binary logarithm rounded down. -/
def exponentUp (y l : EReal) : EReal := Ideal.liftRound Int.floor (Ideal.div (Ideal.log y) l) + 1

/-- A value kept between two bounds. -/
def clipTo (lo hi x : EReal) : EReal := min hi (max lo x)

variable (W : Valuation τ sig (Elt Ideal))

/-- The first list's lines from the `n`-th on, `k` of them. -/
abbrev linesA (n k : Nat) : List (HloOp τ sig (Elt Ideal)) := ((hostOps0 (F := Ideal)).drop n).take k

/-- The magnitudes. -/
theorem first_abs (q : Fin 256) (h : Fin 48) (d : Fin 192) :
    (StableHlo.after (linesA 0 4) W (Proc.devRef .tc main_v2) : Vec Ideal S1x256x48x192 .f32) (ix4 0 q h d)
      = FloatOps.absf (F := Ideal) (φ := .f32) ((W (Proc.devRef .tc main_arg0) : Vec Ideal S1x256x48x192 .bf16) (ix4 0 q h d)) := by
  simp only [linesA, hostOps0, List.drop_succ_cons, List.drop_zero, List.take_succ_cons, List.take_zero]
  after_reads_at

/-- A row's largest magnitude. -/
theorem first_max (q : Fin 256) (h : Fin 48) :
    (StableHlo.after (linesA 4 2) W (Proc.devRef .tc main_v3) : Vec Ideal S1x256x48 .f32) (ix3 0 q h)
      = largest (fun d : Fin 192 => (W (Proc.devRef .tc main_v2) : Vec Ideal S1x256x48x192 .f32) (ix4 0 q h d)) := by
  simp only [linesA, hostOps0, List.drop_succ_cons, List.drop_zero, List.take_succ_cons, List.take_zero]
  after_reads_at
  rfl

/-- Whether a level is small. -/
theorem first_small (q : Fin 256) (h : Fin 48) :
    (StableHlo.after (linesA 6 14) W (Proc.devRef .tc main_v7) : Vec Ideal S1x256x48 .i1) (ix3 0 q h)
      = smallBit (levelOf ((W (Proc.devRef .tc main_v3) : Vec Ideal S1x256x48 .f32) (ix3 0 q h))) := by
  simp only [linesA, hostOps0, List.drop_succ_cons, List.drop_zero, List.take_succ_cons, List.take_zero]
  after_reads_at
  rfl

/-- The exponent of a level that is not small. -/
theorem first_big (q : Fin 256) (h : Fin 48) :
    (StableHlo.after (linesA 6 14) W (Proc.devRef .tc main_v13) : Vec Ideal S1x256x48 .f32) (ix3 0 q h)
      = exponentUp (levelOf ((W (Proc.devRef .tc main_v3) : Vec Ideal S1x256x48 .f32) (ix3 0 q h))) ((W (Proc.devRef .tc main_v0) : Vec Ideal S_ .f32) ix0) := by
  simp only [linesA, hostOps0, List.drop_succ_cons, List.drop_zero, List.take_succ_cons, List.take_zero]
  after_reads_at
  rfl

/-- The logarithm of two. -/
theorem first_two  :
    (StableHlo.after (linesA 0 4) W (Proc.devRef .tc main_v0) : Vec Ideal S_ .f32) (ix0)
      = logTwo := by
  simp only [linesA, hostOps0, List.drop_succ_cons, List.drop_zero, List.take_succ_cons, List.take_zero]
  after_reads_at
  rfl

/-- The zero. -/
theorem first_zero  :
    (StableHlo.after (linesA 6 14) W (Proc.devRef .tc main_cst_4) : Vec Ideal S_ .f32) (ix0)
      = Ideal.ofBits .f32 0x00000000#32 := by
  simp only [linesA, hostOps0, List.drop_succ_cons, List.drop_zero, List.take_succ_cons, List.take_zero]
  after_reads_at

/-- The queries. -/
theorem first_x (q : Fin 256) (h : Fin 48) (d : Fin 192) :
    (StableHlo.after (linesA 0 4) W (Proc.devRef .tc main_v1) : Vec Ideal S1x256x48x192 .f32) (ix4 0 q h d)
      = (W (Proc.devRef .tc main_arg0) : Vec Ideal S1x256x48x192 .bf16) (ix4 0 q h d) := by
  simp only [linesA, hostOps0, List.drop_succ_cons, List.drop_zero, List.take_succ_cons, List.take_zero]
  after_reads_at

/-- The choice between zero and the exponent. -/
theorem second_choice (q : Fin 256) (h : Fin 48) :
    (StableHlo.after hostOps0_1 W (Proc.devRef .tc main_v14) : Vec Ideal S1x256x48 .f32) (ix3 0 q h)
      = Scalar.select ((W (Proc.devRef .tc main_v7) : Vec Ideal S1x256x48 .i1) (ix3 0 q h)) ((W (Proc.devRef .tc main_cst_4) : Vec Ideal S_ .f32) ix0) ((W (Proc.devRef .tc main_v13) : Vec Ideal S1x256x48 .f32) (ix3 0 q h)) := by
  after_reads_at
  rfl

/-- The power of two with exponent `e`, as the reference spells it. -/
def powTwo (e l : EReal) : EReal := Ideal.exp (e * l)

/-- A query times the power of two of the negated exponent. -/
def scaledBy (x e l : EReal) : EReal := x * Ideal.exp (-e * l)

/-- The scale. -/
theorem third_scale (q : Fin 256) (h : Fin 48) :
    (StableHlo.after hostOps0_2 W (Proc.devRef .tc main_v17) : Vec Ideal S1x256x48 .f32) (ix3 0 q h)
      = powTwo ((W (Proc.devRef .tc main_v14) : Vec Ideal S1x256x48 .f32) (ix3 0 q h)) ((W (Proc.devRef .tc main_v0) : Vec Ideal S_ .f32) ix0) := by
  after_reads_at
  rfl

/-- The scaled queries. -/
theorem third_x (q : Fin 256) (h : Fin 48) (d : Fin 192) :
    (StableHlo.after hostOps0_2 W (Proc.devRef .tc main_v24) : Vec Ideal S1x256x48x192 .f32) (ix4 0 q h d)
      = scaledBy ((W (Proc.devRef .tc main_v1) : Vec Ideal S1x256x48x192 .f32) (ix4 0 q h d)) ((W (Proc.devRef .tc main_v14) : Vec Ideal S1x256x48 .f32) (ix3 0 q h)) ((W (Proc.devRef .tc main_v0) : Vec Ideal S_ .f32) ix0) := by
  after_reads_at
  rfl

/-- The lower bound. -/
theorem third_low  :
    (StableHlo.after hostOps0_2 W (Proc.devRef .tc main_cst_5) : Vec Ideal S_ .f32) (ix0)
      = Ideal.ofBits .f32 0xC3E00000#32 := by
  after_reads_at

/-- The upper bound. -/
theorem third_high  :
    (StableHlo.after hostOps0_2 W (Proc.devRef .tc main_cst_6) : Vec Ideal S_ .f32) (ix0)
      = Ideal.ofBits .f32 0x43E00000#32 := by
  after_reads_at

/-- The clipped queries. -/
theorem fourth_x (q : Fin 256) (h : Fin 48) (d : Fin 192) :
    (StableHlo.after hostOps0_3 W (Proc.devRef .tc main_v25) : Vec Ideal S1x256x48x192 .f32) (ix4 0 q h d)
      = clipTo ((W (Proc.devRef .tc main_cst_5) : Vec Ideal S_ .f32) ix0) ((W (Proc.devRef .tc main_cst_6) : Vec Ideal S_ .f32) ix0) ((W (Proc.devRef .tc main_v24) : Vec Ideal S1x256x48x192 .f32) (ix4 0 q h d)) := by
  after_reads_at
  rfl

/-! What a stage does not write it keeps. -/

theorem keep_main_v0_1 : (StableHlo.after (linesA 4 2) W (Proc.devRef .tc main_v0) : Vec Ideal S_ .f32) = W (Proc.devRef .tc main_v0) := by
  simp only [linesA, hostOps0, List.drop_succ_cons, List.drop_zero, List.take_succ_cons, List.take_zero]
  after_reads_simp

theorem keep_main_v0_2 : (StableHlo.after (linesA 6 14) W (Proc.devRef .tc main_v0) : Vec Ideal S_ .f32) = W (Proc.devRef .tc main_v0) := by
  simp only [linesA, hostOps0, List.drop_succ_cons, List.drop_zero, List.take_succ_cons, List.take_zero]
  after_reads_simp

theorem keep_main_v0_3 : (StableHlo.after hostOps0_1 W (Proc.devRef .tc main_v0) : Vec Ideal S_ .f32) = W (Proc.devRef .tc main_v0) := by
  after_reads_simp

theorem keep_main_v1_1 : (StableHlo.after (linesA 4 2) W (Proc.devRef .tc main_v1) : Vec Ideal S1x256x48x192 .f32) = W (Proc.devRef .tc main_v1) := by
  simp only [linesA, hostOps0, List.drop_succ_cons, List.drop_zero, List.take_succ_cons, List.take_zero]
  after_reads_simp

theorem keep_main_v1_2 : (StableHlo.after (linesA 6 14) W (Proc.devRef .tc main_v1) : Vec Ideal S1x256x48x192 .f32) = W (Proc.devRef .tc main_v1) := by
  simp only [linesA, hostOps0, List.drop_succ_cons, List.drop_zero, List.take_succ_cons, List.take_zero]
  after_reads_simp

theorem keep_main_v1_3 : (StableHlo.after hostOps0_1 W (Proc.devRef .tc main_v1) : Vec Ideal S1x256x48x192 .f32) = W (Proc.devRef .tc main_v1) := by
  after_reads_simp

theorem keep_main_v17_4 : (StableHlo.after hostOps0_3 W (Proc.devRef .tc main_v17) : Vec Ideal S1x256x48 .f32) = W (Proc.devRef .tc main_v17) := by
  after_reads_simp

/-- The lines before the launch, in stages. -/
theorem after_before : StableHlo.after (List.flatten [hostOps0, hostOps0_1, hostOps0_2, hostOps0_3]) W
    = StableHlo.after hostOps0_3 (StableHlo.after hostOps0_2 (StableHlo.after hostOps0_1
        (StableHlo.after (linesA 6 14) (StableHlo.after (linesA 4 2) (StableHlo.after (linesA 0 4) W))))) := by
  rw [← StableHlo.after_append, ← StableHlo.after_append, ← StableHlo.after_append, ← StableHlo.after_append,
    ← StableHlo.after_append]
  rfl

/-- The exponent of a query row. -/
def rowExponent (x : Fin 192 → EReal) : EReal :=
  Scalar.select (smallBit (levelOf (largest (fun d => FloatOps.absf (F := Ideal) (φ := .f32) (x d)))))
    (Ideal.ofBits .f32 0x00000000#32 : EReal)
    (exponentUp (levelOf (largest (fun d => FloatOps.absf (F := Ideal) (φ := .f32) (x d)))) logTwo)

/-- A row's largest magnitude, from the arguments. -/
theorem max_at (q : Fin 256) (h : Fin 48) :
    (StableHlo.after (linesA 4 2) (StableHlo.after (linesA 0 4) W) (Proc.devRef .tc main_v3) : Vec Ideal S1x256x48 .f32) (ix3 0 q h)
      = largest (fun d : Fin 192 => FloatOps.absf (F := Ideal) (φ := .f32) ((W (Proc.devRef .tc main_arg0) : Vec Ideal S1x256x48x192 .bf16) (ix4 0 q h d))) := by
  refine (first_max _ q h).trans ?_
  exact congrArg largest (funext fun d => first_abs W q h d)

/-- The exponent after the choice, from the arguments. -/
theorem exponent_at (q : Fin 256) (h : Fin 48) :
    (StableHlo.after hostOps0_1 (StableHlo.after (linesA 6 14) (StableHlo.after (linesA 4 2) (StableHlo.after (linesA 0 4) W)))
        (Proc.devRef .tc main_v14) : Vec Ideal S1x256x48 .f32) (ix3 0 q h)
      = rowExponent (fun d => (W (Proc.devRef .tc main_arg0) : Vec Ideal S1x256x48x192 .bf16) (ix4 0 q h d)) := by
  refine (second_choice _ q h).trans ?_
  rw [first_small, first_zero, first_big, keep_main_v0_1, first_two, max_at]
  rfl

/-- The logarithm of two, at the fourth stage. -/
theorem two_at : (StableHlo.after hostOps0_1 (StableHlo.after (linesA 6 14) (StableHlo.after (linesA 4 2) (StableHlo.after (linesA 0 4) W)))
        (Proc.devRef .tc main_v0) : Vec Ideal S_ .f32) ix0 = logTwo := by
  rw [keep_main_v0_3, keep_main_v0_2, keep_main_v0_1, first_two]

/-- The queries' scales. -/
theorem before_scale (q : Fin 256) (h : Fin 48) :
    (StableHlo.after (List.flatten [hostOps0, hostOps0_1, hostOps0_2, hostOps0_3]) W (Proc.devRef .tc main_v17) : Vec Ideal S1x256x48 .f32) (ix3 0 q h)
      = powTwo (rowExponent (fun d => (W (Proc.devRef .tc main_arg0) : Vec Ideal S1x256x48x192 .bf16) (ix4 0 q h d))) logTwo := by
  rw [after_before, keep_main_v17_4]
  refine (third_scale _ q h).trans ?_
  rw [exponent_at, two_at]

/-- The scaled and clipped queries. -/
theorem before_x (q : Fin 256) (h : Fin 48) (d : Fin 192) :
    (StableHlo.after (List.flatten [hostOps0, hostOps0_1, hostOps0_2, hostOps0_3]) W (Proc.devRef .tc main_v25) : Vec Ideal S1x256x48x192 .f32) (ix4 0 q h d)
      = clipTo (Ideal.ofBits .f32 0xC3E00000#32) (Ideal.ofBits .f32 0x43E00000#32)
          (scaledBy ((W (Proc.devRef .tc main_arg0) : Vec Ideal S1x256x48x192 .bf16) (ix4 0 q h d))
            (rowExponent (fun d => (W (Proc.devRef .tc main_arg0) : Vec Ideal S1x256x48x192 .bf16) (ix4 0 q h d))) logTwo) := by
  rw [after_before]
  refine (fourth_x _ q h d).trans ?_
  rw [third_low, third_high, third_x, exponent_at, two_at, keep_main_v1_3, keep_main_v1_2, keep_main_v1_1, first_x]

end Cert.ReferenceIdeal.Hand

end
-- ==== Proof.RefArrays.lean ====
/- The reference's run: its three results at an index, from the arguments. -/
module

public import proofs.«01_k».proof.Proof.RefTail
public import proofs.«01_k».proof.Proof.RefEntry
public import Idealize.ShloMosaic.Lib.Pipeline.ValueKit
public import Idealize.ShloMosaic.Lib.Pipeline.Covers

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg) (c : Dev nD)

theorem index0 : ∀ t : Fin cfg0.N, win0_0.index t = ![0, 0, 0, 0] := by decide +kernel
theorem index1 : ∀ t : Fin cfg0.N, win0_1.index t = ![0, 0, 0, 0, 0, 0] := by decide +kernel
theorem index2 : ∀ t : Fin cfg0.N, win0_2.index t = ![0, 0, 0, 0, 0, 0] := by decide +kernel
theorem index3 : ∀ t : Fin cfg0.N, win0_3.index t = ![0, 0, 0, 0] := by decide +kernel
theorem index4 : ∀ t : Fin cfg0.N, win0_4.index t = ![0, 0, 0, 0] := by decide +kernel
theorem index5 : ∀ t : Fin cfg0.N, win0_5.index t = ![0, 0, 0, 0, 0, 0] := by decide +kernel
theorem index6 : ∀ t : Fin cfg0.N, win0_6.index t = ![0, 0, 0, 0, 0, 0] := by decide +kernel
theorem covers3 : (cfg0.win 3).Covers := by decide +kernel
theorem covers4 : (cfg0.win 4).Covers := by decide +kernel
theorem covers5 : (cfg0.win 5).Covers := by decide +kernel
theorem covers6 : (cfg0.win 6).Covers := by decide +kernel

/-- The cast payloads at an index: at this instance a cast is the identity. -/
theorem pay1_apply (x : Vec Ideal S1x256x48x192 .f32) (y : S1x256x48x192.Idx) : k0_pay1 x y = x y := by
  rw [eq_ix4 y]
  pointwise [k0_pay1]

/-- The codes: what the body leaves in the block. -/
theorem out3 (x0 : Vec Ideal S1x256x48x192 .f32) (x1 x2 : Vec Ideal S1x4x2x128x48x192 .fp8e4m3) (y : S1x256x48x192.Idx) :
    out0_3 x0 x1 x2 y = x0 y := by
  unfold out0_3 r0_0
  rw [View.canon_unit_zero (by funext a; fin_cases a <;> rfl), View.ld_unit_zero (by funext a; fin_cases a <;> rfl)]
  exact pay1_apply _ y

/-- The codes: the array after the launch. -/
theorem arr3 : (dats m 0 c).arrAt 3 cfg0.N = (fun i => (V m c main_v25 : Vec Ideal S1x256x48x192 .f32) i : Vec Ideal S1x256x48x192 .fp8e4m3) := by
  refine Pipeline.Dat.arrAt_eq_of_covers _ 3 _ covers3 fun t hf y => ?_
  rw [after0_3]
  blk_simp
  refine (out3 _ _ _ y).trans ?_
  refine congrArg (V m c main_v25 : Vec Ideal S1x256x48x192 .f32) (funext fun a => Fin.ext ?_)
  fin_cases a <;> blk_simp [index0, index3]

/-- The codes, widened: what the body leaves in the block. -/
theorem out4 (x0 : Vec Ideal S1x256x48x192 .f32) (x1 x2 : Vec Ideal S1x4x2x128x48x192 .fp8e4m3) (y : S1x256x48x192.Idx) :
    out0_4 x0 x1 x2 y = x0 y := by
  unfold out0_4 r0_0
  rw [View.canon_unit_zero (by funext a; fin_cases a <;> rfl), View.ld_unit_zero (by funext a; fin_cases a <;> rfl)]
  exact pay1_apply _ y

/-- The codes, widened: the array after the launch. -/
theorem arr4 : (dats m 0 c).arrAt 4 cfg0.N = (fun i => (V m c main_v25 : Vec Ideal S1x256x48x192 .f32) i : Vec Ideal S1x256x48x192 .f32) := by
  refine Pipeline.Dat.arrAt_eq_of_covers _ 4 _ covers4 fun t hf y => ?_
  rw [after0_4]
  blk_simp
  refine (out4 _ _ _ y).trans ?_
  refine congrArg (V m c main_v25 : Vec Ideal S1x256x48x192 .f32) (funext fun a => Fin.ext ?_)
  fin_cases a <;> blk_simp [index0, index4]

/-- The keys, widened: what the body leaves in the block. -/
theorem out5 (x0 : Vec Ideal S1x256x48x192 .f32) (x1 x2 : Vec Ideal S1x4x2x128x48x192 .fp8e4m3) (y : S1x4x2x128x48x192.Idx) :
    out0_5 x0 x1 x2 y = x1 y := by
  unfold out0_5 r0_1
  rw [View.canon_unit_zero (by funext a; fin_cases a <;> rfl), View.ld_unit_zero (by funext a; fin_cases a <;> rfl)]
  exact rfl

/-- The keys, widened: the array after the launch. -/
theorem arr5 : (dats m 0 c).arrAt 5 cfg0.N = (fun i => (V m c main_arg1 : Vec Ideal S1x4x2x128x48x192 .fp8e4m3) i : Vec Ideal S1x4x2x128x48x192 .f32) := by
  refine Pipeline.Dat.arrAt_eq_of_covers _ 5 _ covers5 fun t hf y => ?_
  rw [after0_5]
  blk_simp
  refine (out5 _ _ _ y).trans ?_
  refine congrArg (V m c main_arg1 : Vec Ideal S1x4x2x128x48x192 .fp8e4m3) (funext fun a => Fin.ext ?_)
  fin_cases a <;> blk_simp [index1, index5]

/-- The values, widened: what the body leaves in the block. -/
theorem out6 (x0 : Vec Ideal S1x256x48x192 .f32) (x1 x2 : Vec Ideal S1x4x2x128x48x192 .fp8e4m3) (y : S1x4x2x128x48x192.Idx) :
    out0_6 x0 x1 x2 y = x2 y := by
  unfold out0_6 r0_1
  rw [View.canon_unit_zero (by funext a; fin_cases a <;> rfl), View.ld_unit_zero (by funext a; fin_cases a <;> rfl)]
  exact rfl

/-- The values, widened: the array after the launch. -/
theorem arr6 : (dats m 0 c).arrAt 6 cfg0.N = (fun i => (V m c main_arg3 : Vec Ideal S1x4x2x128x48x192 .fp8e4m3) i : Vec Ideal S1x4x2x128x48x192 .bf16) := by
  refine Pipeline.Dat.arrAt_eq_of_covers _ 6 _ covers6 fun t hf y => ?_
  rw [after0_6]
  blk_simp
  refine (out6 _ _ _ y).trans ?_
  refine congrArg (V m c main_arg3 : Vec Ideal S1x4x2x128x48x192 .fp8e4m3) (funext fun a => Fin.ext ?_)
  fin_cases a <;> blk_simp [index2, index6]

/-- The buffers when the launch ends. -/
def leftW : Valuation τ sig (Elt Ideal) :=
  Pipeline.withArrays spec0 c (V0 m c) (fun w => (dats m 0 c).arrAt w cfg0.N)

theorem left_arr (w : Fin cfg0.W) : leftW m c (Proc.devRef .tc (Pipeline.arrRef spec0 w)) = (dats m 0 c).arrAt w cfg0.N :=
  Pipeline.withArrays_arr spec0 launch0.win.arr_inj c (V0 m c) _ w

/-- The lines after the launch end there. -/
theorem tail_eq (b : Ref sig .tc) : Pipeline.afterTail₀ cfgs (dats m) 0 (V0 m) [hostOps1] c b
    = StableHlo.after (lines 0 59) (leftW m c) (Proc.devRef .tc b) := rfl

/-- The five arguments of device `c`. -/
abbrev argX : Vec Ideal S1x256x48x192 .bf16 := m ((c : Thread nD τ).loc main_arg0)
@[inherit_doc argX] abbrev argK : Vec Ideal S1x4x2x128x48x192 .fp8e4m3 := m ((c : Thread nD τ).loc main_arg1)
@[inherit_doc argX] abbrev argKs : Vec Ideal S1x4x2x128x48 .f32 := m ((c : Thread nD τ).loc main_arg2)
@[inherit_doc argX] abbrev argV : Vec Ideal S1x4x2x128x48x192 .fp8e4m3 := m ((c : Thread nD τ).loc main_arg3)
@[inherit_doc argX] abbrev argVs : Vec Ideal S1x4x2x128x48 .f32 := m ((c : Thread nD τ).loc main_arg4)

/-- The scale of a query row: two to its exponent. -/
def scaleOf (x : Fin 192 → EReal) : EReal := powTwo (rowExponent x) logTwo

/-- The code of a query row's entry: the entry over the scale, clipped. -/
def codeOf (x : Fin 192 → EReal) (d : Fin 192) : EReal :=
  clipTo (Ideal.ofBits .f32 0xC3E00000#32) (Ideal.ofBits .f32 0x43E00000#32) (scaledBy (x d) (rowExponent x) logTwo)

/-- Query row `t` of head `h`. -/
def rowOf (x : Vec Ideal S1x256x48x192 .bf16) (t : Fin 256) (h : Fin 48) : Fin 192 → EReal := fun d => x (ix4 0 t h d)

/-- Head `h`'s score of query row `t` against key `k` of chunk `u`, from the arguments. -/
def scoreFrom (x : Vec Ideal S1x256x48x192 .bf16) (K : Vec Ideal S1x4x2x128x48x192 .fp8e4m3) (Ks : Vec Ideal S1x4x2x128x48 .f32)
    (t : Fin 256) (u : Fin 4) (h : Fin 48) (k : Fin 256) : EReal :=
  Ideal.div (dotOf (fun d : Fin 192 => K (ix6 0 u ⟨k.val / 128, by omega⟩ ⟨k.val % 128, Nat.mod_lt _ (by decide)⟩ h d))
        (codeOf (rowOf x t h))
      * scaleOf (rowOf x t h)
      * Ks (ix5 0 u ⟨k.val / 128, by omega⟩ ⟨k.val % 128, Nat.mod_lt _ (by decide)⟩ h))
    (Ideal.sqrt (Ideal.ofBits .f32 0x43400000#32))

/-- The output at row `t`, head `h`, column `d`, from the arguments. -/
def outFrom (x : Vec Ideal S1x256x48x192 .bf16) (K : Vec Ideal S1x4x2x128x48x192 .fp8e4m3) (Ks : Vec Ideal S1x4x2x128x48 .f32)
    (Vv : Vec Ideal S1x4x2x128x48x192 .fp8e4m3) (Vs : Vec Ideal S1x4x2x128x48 .f32) (t : Fin 256) (h : Fin 48) (d : Fin 192) : EReal :=
  if t.val < 63 then 0 else
    dotOf (fun k : Fin 256 => Vv (ix6 0 (chunkOf t) ⟨k.val / 128, by omega⟩ ⟨k.val % 128, Nat.mod_lt _ (by decide)⟩ h d))
      (fun k => softRow (fun l => scoreFrom x K Ks t (chunkOf t) h l) k
        * Vs (ix5 0 (chunkOf t) ⟨k.val / 128, by omega⟩ ⟨k.val % 128, Nat.mod_lt _ (by decide)⟩ h))

theorem left_codes (q : Fin 256) (h : Fin 48) (d : Fin 192) :
    (leftW m c (Proc.devRef .tc main_v26_0) : Vec Ideal S1x256x48x192 .fp8e4m3) (ix4 0 q h d) = codeOf (rowOf (argX m c) q h) d :=
  (congrFun ((left_arr m c 3).trans (arr3 m c)) (ix4 0 q h d)).trans (before_x (fun b => m (c, b)) q h d)

theorem left_wide (q : Fin 256) (h : Fin 48) (d : Fin 192) :
    (leftW m c (Proc.devRef .tc main_v26_1) : Vec Ideal S1x256x48x192 .f32) (ix4 0 q h d) = codeOf (rowOf (argX m c) q h) d :=
  (congrFun ((left_arr m c 4).trans (arr4 m c)) (ix4 0 q h d)).trans (before_x (fun b => m (c, b)) q h d)

theorem left_keys (i : S1x4x2x128x48x192.Idx) :
    (leftW m c (Proc.devRef .tc main_v26_2) : Vec Ideal S1x4x2x128x48x192 .f32) i = argK m c i :=
  (congrFun ((left_arr m c 5).trans (arr5 m c)) i).trans (congrFun (V_main_arg1 m c) i)

theorem left_values (i : S1x4x2x128x48x192.Idx) :
    (leftW m c (Proc.devRef .tc main_v26_3) : Vec Ideal S1x4x2x128x48x192 .bf16) i = argV m c i :=
  (congrFun ((left_arr m c 6).trans (arr6 m c)) i).trans (congrFun (V_main_arg3 m c) i)

theorem left_scales (q : Fin 256) (h : Fin 48) :
    (leftW m c (Proc.devRef .tc main_v17) : Vec Ideal S1x256x48 .f32) (ix3 0 q h) = scaleOf (rowOf (argX m c) q h) :=
  (congrFun (Pipeline.withArrays_of_ne spec0 c (V0 m c) _ main_v17 (by exact (by decide : ∀ w, Pipeline.arrRef spec0 w ≠ main_v17)))
    (ix3 0 q h)).trans (before_scale (fun b => m (c, b)) q h)

theorem left_ks : (leftW m c (Proc.devRef .tc main_arg2) : Vec Ideal S1x4x2x128x48 .f32) = argKs m c :=
  (Pipeline.withArrays_of_ne spec0 c (V0 m c) _ main_arg2 (by exact (by decide : ∀ w, Pipeline.arrRef spec0 w ≠ main_arg2))).trans
    (V_main_arg2 m c)

theorem left_vs : (leftW m c (Proc.devRef .tc main_arg4) : Vec Ideal S1x4x2x128x48 .f32) = argVs m c :=
  (Pipeline.withArrays_of_ne spec0 c (V0 m c) _ main_arg4 (by exact (by decide : ∀ w, Pipeline.arrRef spec0 w ≠ main_arg4))).trans
    (V_main_arg4 m c)

theorem score_left (t : Fin 256) (u : Fin 4) (h : Fin 48) (k : Fin 256) :
    scoreOf (leftW m c) t u h k = scoreFrom (argX m c) (argK m c) (argKs m c) t u h k := by
  unfold scoreOf scoreFrom
  rw [left_scales, left_ks]
  refine congrArg (fun x => Ideal.div (x * _ * _) _) (congrArg₂ dotOf (funext fun d => ?_) (funext fun d => ?_))
  · exact left_keys m c _
  · exact left_wide m c t h d

theorem out_left (t : Fin 256) (h : Fin 48) (d : Fin 192) :
    refOut (leftW m c) t h d = outFrom (argX m c) (argK m c) (argKs m c) (argV m c) (argVs m c) t h d := by
  unfold refOut outFrom
  refine if_congr Iff.rfl rfl (congrArg₂ dotOf (funext fun k => ?_) (funext fun k => ?_))
  · exact left_values m c _
  · rw [left_vs]
    exact congrArg (· * _) (congrFun (congrArg softRow (funext fun l => score_left m c t _ h l)) k)

/-- The reference's output, as an array. -/
def outArr : Vec Ideal S256x9216 .bf16 := fun i =>
  outFrom (argX m c) (argK m c) (argKs m c) (argV m c) (argVs m c) (i 0)
    ⟨(i 1).val / 192, by have : (i 1).val < 9216 := (i 1).isLt; omega⟩ ⟨(i 1).val % 192, Nat.mod_lt _ (by decide)⟩

/-- The reference's codes, as an array. -/
def codesArr : Vec Ideal S48x192x256 .fp8e4m3 := fun i => codeOf (rowOf (argX m c) (i 2) (i 0)) (i 1)

/-- The reference's scales, as an array. -/
def scalesArr : Vec Ideal S48x256 .f32 := fun i => scaleOf (rowOf (argX m c) (i 1) (i 0))

theorem out_after : (StableHlo.after (lines 0 59) (leftW m c) (Proc.devRef .tc main_v74) : Vec Ideal S256x9216 .bf16) = outArr m c := by
  funext i
  obtain ⟨t, j, rfl⟩ : ∃ (t : Fin 256) (j : Fin 9216), i = ix2 t j := ⟨i 0, i 1, eq_ix2 i⟩
  exact (out_at (leftW m c) t j).trans (out_left m c t _ _)

theorem codes_after : (StableHlo.after (lines 0 59) (leftW m c) (Proc.devRef .tc main_v76) : Vec Ideal S48x192x256 .fp8e4m3) = codesArr m c := by
  funext i
  obtain ⟨h, d, q, rfl⟩ : ∃ (h : Fin 48) (d : Fin 192) (q : Fin 256), i = ix3 h d q := ⟨i 0, i 1, i 2, eq_ix3 i⟩
  exact (codesAt (leftW m c) h d q).trans (left_codes m c q h d)

theorem scales_after : (StableHlo.after (lines 0 59) (leftW m c) (Proc.devRef .tc main_v78) : Vec Ideal S48x256 .f32) = scalesArr m c := by
  funext i
  obtain ⟨h, q, rfl⟩ : ∃ (h : Fin 48) (q : Fin 256), i = ix2 h q := ⟨i 0, i 1, eq_ix2 i⟩
  exact (scalesAt (leftW m c) h q).trans (left_scales m c q h)

/-- The reference's run: the three results and the arguments unchanged. -/
theorem run_value : θ_run defs (onTc (τ := τ) (main (F := Ideal))) ⟨m, fun _ => 0, ρ⟩ (fun r => ∀ c : Dev nD,
      r.2.mem ((c.tc : Thread nD τ).loc main_v74) = outArr m c
      ∧ r.2.mem ((c.tc : Thread nD τ).loc main_v76) = codesArr m c
      ∧ r.2.mem ((c.tc : Thread nD τ).loc main_v78) = scalesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(((h c).2 main_v74 (Pipeline.mem_restRefs_of main_v74 (by decide) (by decide))).trans (tail_eq m c _)).trans (out_after m c),
      (((h c).2 main_v76 (Pipeline.mem_restRefs_of main_v76 (by decide) (by decide))).trans (tail_eq m c _)).trans (codes_after m c),
      (((h c).2 main_v78 (Pipeline.mem_restRefs_of main_v78 (by decide) (by decide))).trans (tail_eq m c _)).trans (scales_after m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.ReferenceIdeal.Hand

end
-- ==== Proof.Quantiser.lean ====
module

public import proofs.«01_k».proof.Proof.Search
public import proofs.«01_k».proof.Proof.RefArrays

@[expose] public section

/-!
The two quantisers agree.

For a row whose magnitudes are at most the largest finite bf16, the level `y` (the largest
magnitude over 448) is a real number in `[0, 2 ^ 126)`.  The kernel finds the exponent of `y` by
trying bits, the reference by a logarithm rounded down; both give the same power of two, and so the
same scale and the same codes.
-/

set_option maxRecDepth 16384

noncomputable section

namespace Cert.Quantiser

open Idealize.ShloMosaic Idealize.SL.Sem
open Cert.KernelIdeal.Head Cert.ReferenceIdeal.Hand

/-- The largest finite bf16. -/
def bound : EReal := Ideal.ofBits .bf16 0x7F7F#16

/-- The largest finite bf16, as a real number. -/
theorem bound_eq : bound = (((255 : ℝ) * 2 ^ 120 : ℝ) : EReal) := by
  unfold bound
  simp [Ideal.ofBits, Ideal.ieee, -EReal.coe_mul]

/-- The constant 1/448, as the f32 it is. -/
theorem level_const :
    Ideal.ofBits .f32 0x3B124925#32 = (((9586981 : ℝ) / 2 ^ 32 : ℝ) : EReal) := by
  simp [Ideal.ofBits, Ideal.ieee, -EReal.coe_mul]
  norm_num

/-- The initial value of the maximum is the least extended real. -/
theorem neg_inf : Ideal.ofBits .f32 0xFF800000#32 = ⊥ := by
  simp [Ideal.ofBits, Ideal.ieee]

/-- The least normal f32 is the float whose exponent field is `1`. -/
theorem least_normal : Ideal.ofBits .f32 0x00800000#32 = power (BitVec.ofNat 32 1) := rfl

/-- The constant 2. -/
theorem two_const : Ideal.ofBits .f32 0x40000000#32 = ((2 : ℝ) : EReal) := by
  simp [Ideal.ofBits, Ideal.ieee, -EReal.coe_mul]
  norm_num

/-- The reference's logarithm of two. -/
theorem logTwo_eq : logTwo = ((Real.log 2 : ℝ) : EReal) := by
  unfold logTwo
  rw [two_const, Ideal.log_coe, if_neg (by norm_num)]

/-- The level of a row of magnitudes up to the largest finite bf16 is a real in `[0, 2 ^ 126)`. -/
theorem level_real (x : Fin 192 → EReal)
    (hx : ∀ d, FloatOps.absf (F := Ideal) (φ := .f32) (x d) ≤ bound) :
    ∃ r : ℝ, levelOf (largest fun d => FloatOps.absf (F := Ideal) (φ := .f32) (x d)) = (r : EReal) ∧
      0 ≤ r ∧ r < 2 ^ (126 : ℤ) := by
  have h0 : (0 : EReal) ≤ largest fun d => FloatOps.absf (F := Ideal) (φ := .f32) (x d) := by
    unfold largest
    rw [Finset.le_fold_max]
    refine Or.inr ⟨0, Finset.mem_univ _, ?_⟩
    rw [Ideal.absf_def]
    rcases le_total 0 (x 0) with h | h
    · exact le_max_of_le_left h
    · exact le_max_of_le_right (EReal.neg_nonneg.mpr h)
  have h1 : (largest fun d => FloatOps.absf (F := Ideal) (φ := .f32) (x d))
      ≤ (((255 : ℝ) * 2 ^ 120 : ℝ) : EReal) := by
    rw [← bound_eq]
    unfold largest
    rw [Finset.fold_max_le]
    exact ⟨by rw [neg_inf]; exact bot_le, fun d _ => hx d⟩
  unfold levelOf
  generalize (largest fun d => FloatOps.absf (F := Ideal) (φ := .f32) (x d)) = a at h0 h1
  induction a with
  | bot => simp at h0
  | top => exact absurd h1 (not_le.mpr (EReal.coe_lt_top _))
  | coe a =>
    have h0' : 0 ≤ a := by exact_mod_cast h0
    have h1' : a ≤ 255 * 2 ^ 120 := EReal.coe_le_coe_iff.mp h1
    refine ⟨a * (9586981 / 2 ^ 32), ?_, by positivity, ?_⟩
    · rw [level_const, ← EReal.coe_mul]
    · calc a * (9586981 / 2 ^ 32) ≤ (255 * 2 ^ 120) * (9586981 / 2 ^ 32) := by gcongr
        _ < 2 ^ (126 : ℤ) := by norm_num

/-- What both quantisers make of a level: an exponent `k`, the reference's exponent value, and the
kernel's two floats `2 ^ k` and `2 ^ (-k)`. -/
theorem exponent_agrees (r : ℝ) (h0 : 0 ≤ r) (h1 : r < 2 ^ (126 : ℤ)) :
    ∃ k : ℤ,
      Scalar.select (smallBit (r : EReal)) (Ideal.ofBits .f32 0x00000000#32)
          (exponentUp (r : EReal) logTwo) = ((k : ℝ) : EReal) ∧
      power (IntOp.addi (shifted (search (r : EReal))) 127#32) = (((2 : ℝ) ^ k : ℝ) : EReal) ∧
      power (IntOp.subi 127#32 (shifted (search (r : EReal)))) = (((2 : ℝ) ^ (-k) : ℝ) : EReal) := by
  obtain ⟨E, hE, hle, hlo, hhi⟩ := search_spec (r : EReal) (by exact_mod_cast h0)
  rw [hE]
  have two0 : (2 : ℝ) ≠ 0 := by norm_num
  by_cases hz : E = 0
  · subst hz
    refine ⟨0, ?_, ?_, ?_⟩
    · have : smallBit (r : EReal) = 1#1 := by
        unfold smallBit
        rw [least_normal]
        rcases hhi with h | h
        · omega
        · rw [decide_eq_true h]
          rfl
      rw [this, ValueIdx.select_one, Ideal.ofBits_zero]
      simp
    · rw [shifted_zero.1, power_eq 127 (by norm_num) (by norm_num)]
      norm_num
    · rw [shifted_zero.2, power_eq 127 (by norm_num) (by norm_num)]
      norm_num
  · have hE252 : E ≤ 252 := by
      by_contra hc
      have hE254 : E ≤ 254 ∨ E = 255 := by omega
      have hbig : (((2 : ℝ) ^ (126 : ℤ) : ℝ) : EReal) ≤ power (BitVec.ofNat 32 E) := by
        rcases hE254 with h | h
        · rw [power_eq E (by omega) h]
          exact EReal.coe_le_coe_iff.mpr (zpow_le_zpow_right₀ (by norm_num) (by omega))
        · subst h
          have : power (BitVec.ofNat 32 255) = ⊤ := by
            obtain ⟨h1, h2, h3⟩ := power_fields 255
            have e : ((255 : Fin 256) : ℕ) = 255 := rfl
            rw [e] at h1 h2 h3
            unfold power
            simp [Ideal.ofBits, Ideal.ieee, h1, h2, h3]
          rw [this]
          exact le_top
      have := EReal.coe_le_coe_iff.mp (hbig.trans hlo)
      linarith
    have hlo' : (2 : ℝ) ^ ((E : ℤ) - 127) ≤ r := by
      rw [power_eq E (by omega) (by omega)] at hlo
      exact EReal.coe_le_coe_iff.mp hlo
    have hhi' : r < (2 : ℝ) ^ ((E : ℤ) - 126) := by
      rcases hhi with h | h
      · omega
      · rw [power_eq (E + 1) (by omega) (by omega)] at h
        have := EReal.coe_lt_coe_iff.mp h
        have e : (((E + 1 : ℕ) : ℤ) - 127) = (E : ℤ) - 126 := by push_cast; ring
        rwa [e] at this
    have hr : 0 < r := lt_of_lt_of_le (by positivity) hlo'
    have hl2 : 0 < Real.log 2 := Real.log_pos (by norm_num)
    obtain ⟨hs1, hs2⟩ := shifted_fin ⟨E, by omega⟩ hz
    simp only at hs1 hs2
    refine ⟨(E : ℤ) - 126, ?_, ?_, ?_⟩
    · have hsm : smallBit (r : EReal) = 0#1 := by
        unfold smallBit
        rw [least_normal, power_eq 1 (by norm_num) (by norm_num)]
        have : ¬ ((r : EReal) < (((2 : ℝ) ^ (((1 : ℕ) : ℤ) - 127) : ℝ) : EReal)) := by
          rw [not_lt, EReal.coe_le_coe_iff]
          refine le_trans (zpow_le_zpow_right₀ (by norm_num) ?_) hlo'
          have : 1 ≤ E := by omega
          push_cast
          omega
        rw [decide_eq_false this]
        rfl
      rw [hsm, ValueIdx.select_zero]
      unfold exponentUp
      rw [logTwo_eq, Ideal.log_coe, if_neg (by linarith), Ideal.div_coe hl2.ne',
        ← EReal.coe_mul, mul_one_div, Ideal.liftRound_coe]
      have hf : Int.floor (Real.log r / Real.log 2) = (E : ℤ) - 127 := by
        rw [Int.floor_eq_iff]
        constructor
        · rw [le_div_iff₀ hl2, ← Real.log_zpow]
          exact Real.log_le_log (by positivity) hlo'
        · rw [div_lt_iff₀ hl2]
          have : ((((E : ℤ) - 127 : ℤ) : ℝ) + 1) * Real.log 2 = Real.log ((2 : ℝ) ^ ((E : ℤ) - 126)) := by
            rw [Real.log_zpow]
            push_cast
            ring
          rw [this]
          exact Real.log_lt_log hr hhi'
      rw [hf]
      rw [← EReal.coe_one, ← EReal.coe_add]
      refine EReal.coe_eq_coe_iff.mpr ?_
      push_cast
      ring
    · rw [hs1, power_eq (E + 1) (by omega) (by omega)]
      congr 2
      push_cast
      ring
    · rw [hs2, power_eq (253 - E) (by omega) (by omega)]
      refine EReal.coe_eq_coe_iff.mpr (congrArg (fun z : ℤ => (2 : ℝ) ^ z) ?_)
      omega

/-- The exponential of an integer multiple of the logarithm of two is the power of two. -/
theorem exp_log_two (k : ℤ) :
    Ideal.exp (((k : ℝ) : EReal) * logTwo) = (((2 : ℝ) ^ k : ℝ) : EReal) := by
  rw [logTwo_eq, ← EReal.coe_mul, Ideal.exp_coe]
  refine EReal.coe_eq_coe_iff.mpr ?_
  rw [← Real.log_zpow, Real.exp_log (by positivity)]

open Cert.KernelIdeal in
/-- The kernel's level of a query is the reference's. -/
theorem amax_apply (x : FVec Ideal S192x256 .bf16) (t : Fin 256) :
    amax x (ix2 0 t)
      = levelOf (largest (fun d => FloatOps.absf (F := Ideal) (φ := .f32) (x (ix2 d t)))) := by
  pointwise [amax]
  rfl

open Cert.KernelIdeal in
/-- The kernel's scale of a query is the reference's. -/
theorem scale_agrees (x : FVec Ideal S192x256 .bf16) (t : Fin 256)
    (hx : ∀ d, FloatOps.absf (F := Ideal) (φ := .f32) (x (ix2 d t)) ≤ bound) :
    scale x (ix2 0 t) = scaleOf (fun d => x (ix2 d t)) := by
  obtain ⟨r, hr, h0, h1⟩ := level_real (fun d => x (ix2 d t)) hx
  obtain ⟨k, hk, hs, -⟩ := exponent_agrees r h0 h1
  rw [scale_apply, amax_apply, hr, hs]
  unfold scaleOf powTwo rowExponent
  rw [hr, hk, exp_log_two]

open Cert.KernelIdeal in
/-- The kernel's code of an entry of a query is the reference's. -/
theorem values_agree (x : FVec Ideal S192x256 .bf16) (d : Fin 192) (t : Fin 256)
    (hx : ∀ d, FloatOps.absf (F := Ideal) (φ := .f32) (x (ix2 d t)) ≤ bound) :
    values x (ix2 d t) = codeOf (fun d => x (ix2 d t)) d := by
  obtain ⟨r, hr, h0, h1⟩ := level_real (fun d => x (ix2 d t)) hx
  obtain ⟨k, hk, -, hi⟩ := exponent_agrees r h0 h1
  rw [values_apply, inverse_apply, amax_apply, hr, hi]
  unfold codeOf clipTo scaledBy rowExponent
  rw [hr, hk]
  have : -((k : ℝ) : EReal) = (((-k : ℤ) : ℝ) : EReal) := by
    push_cast
    rfl
  rw [this, exp_log_two]

end Cert.Quantiser
end
-- ==== Proof.HeadValue.lean ====
/- What a head's result is, read at a query and a column: the softmax of the query's scores against its chunk's keys, times
   the value scales, against the chunk's values; and zero for the first 63 queries, which belong to no chunk. -/
module

public import proofs.«01_k».proof.Proof.Scores

@[expose] public section

set_option maxRecDepth 16384

noncomputable section

namespace Cert.KernelIdeal.Head

open Cert.KernelIdeal Cert.KernelIdeal.Gen
open Idealize.ShloMosaic Idealize.SL.Sem

/-- The chunk of a query: queries 63 to 126 have chunk 0, and so on. -/
def chunk (t : Fin 256) : Fin 4 := ⟨(t.val - 63) / 64, by omega⟩

/-- The probabilities of query `t` times the value scales, over the keys of chunk `u`. -/
def pOf (a : Inputs Ideal) (t : Fin 256) (u : Fin 4) (l : Fin 256) : EReal :=
  row (fun l => dotQK a.x (a.k u) t l * a.kn u (ix2 0 l) * scale a.x (ix2 0 t)) l * a.vs u (ix2 0 l)

theorem chunk_eq {t : Fin 256} {u : Fin 4} (h : t.val = 63 + 64 * u.val ∨ (64 * u.val + 64 ≤ t.val ∧ t.val < 64 * u.val + 127)) :
    chunk t = u := Fin.ext (by show (t.val - 63) / 64 = u.val; omega)

/-- The last row of the first block. -/
theorem p0_apply (a : Inputs Ideal) (l : Fin 256) : p0 a.x a.k a.kn a.vs (ix2 15 l) = pOf a 63 0 l := by
  unfold p0 pOf
  rw [probs0_apply]
  simp only [qScale_apply, score96_apply 32 _ a.x _ 31 _ 63 rfl]

/-- The rows of a later block, from row `o` on, whose queries have chunk `u` but for the last, which has chunk `u'`. -/
theorem block_apply (a : Inputs Ideal) (u u' : Fin 4) (o : Nat) (hs : Shape.Slices S256x256 ![o, 0] S64x256)
    (prev : FVec Ideal S96x256 .f32) (tail : FVec Ideal S8x256 .f32) (ho : o = 64 * u.val + 64) (hu : u'.val = u.val + 1)
    (hprev : ∀ (r : Fin 64) (l t : Fin 256), t.val = o + r.val → prev (ix2 ⟨32 + r.val, by omega⟩ l) = dotQK a.x (a.k u) t l)
    (htail : ∀ (l t : Fin 256), t.val = o + 63 → tail (ix2 7 l) = dotQK a.x (a.k u') t l)
    (r : Fin 64) (l t : Fin 256) (ht : t.val = o + r.val) :
    probs (scoreBlock prev tail (a.kn u) (a.kn u')) (extractStridedSlice S64x256 ![o, 0] (qScale a.x) hs)
      (valueScales (a.vs u) (a.vs u')) (ix2 r l) = pOf a t (chunk t) l := by
  have hq : ∀ l : Fin 256, extractStridedSlice S64x256 ![o, 0] (qScale a.x) hs (ix2 r l) = scale a.x (ix2 0 t) := by
    intro l
    have e : (⟨o + r.val, by rw [← ht]; exact t.isLt⟩ : Fin 256) = t := Fin.ext ht.symm
    pointwise
    rw [e, qScale_apply]
  unfold pOf
  rw [probs_apply]
  by_cases h63 : r.val = 63
  · have hc : chunk t = u' := chunk_eq (by omega)
    simp only [scoreBlock_apply, valueScales_apply, h63, ↓reduceIte, hq, hc, htail _ t (by omega)]
  · have hc : chunk t = u := chunk_eq (by omega)
    simp only [scoreBlock_apply, valueScales_apply, h63, ↓reduceIte, hq, hc, hprev r _ t ht]

/-- The rows of the later blocks. -/
theorem p1_apply (a : Inputs Ideal) (r : Fin 64) (l t : Fin 256) (ht : t.val = 64 + r.val) :
    p1 a.x a.k a.kn a.vs (ix2 r l) = pOf a t (chunk t) l := by
  unfold p1
  refine block_apply a 0 1 64 _ _ _ rfl rfl (fun r l t ht => score96_apply _ _ _ _ _ _ _ (by simp only []; omega)) (fun l t ht => ?_) r l t ht
  pointwise
  exact score96_apply _ _ _ _ _ _ _ (by omega)
@[inherit_doc p1_apply]
theorem p2_apply (a : Inputs Ideal) (r : Fin 64) (l t : Fin 256) (ht : t.val = 128 + r.val) :
    p2 a.x a.k a.kn a.vs (ix2 r l) = pOf a t (chunk t) l := by
  unfold p2
  refine block_apply a 1 2 128 _ _ _ rfl rfl (fun r l t ht => score96_apply _ _ _ _ _ _ _ (by simp only []; omega)) (fun l t ht => ?_) r l t ht
  pointwise
  exact score96_apply _ _ _ _ _ _ _ (by omega)
@[inherit_doc p1_apply]
theorem p3_apply (a : Inputs Ideal) (r : Fin 64) (l t : Fin 256) (ht : t.val = 192 + r.val) :
    p3 a.x a.k a.kn a.vs (ix2 r l) = pOf a t (chunk t) l := by
  unfold p3
  refine block_apply a 2 3 192 _ _ _ rfl rfl (fun r l t ht => score96_apply _ _ _ _ _ _ _ (by simp only []; omega)) (fun l t ht => ?_) r l t ht
  pointwise
  exact score32_apply _ _ _ _ _ (by omega)

/-- Eighty rows against the values of a chunk. -/
theorem out80_apply (a : FVec Ideal S16x256 .bf16) (b : FVec Ideal S64x256 .bf16) (v : FVec Ideal S256x256 .fp8e4m3)
    (r : Fin 80) (j : Fin 256) : out80 a b v (ix2 r j)
      = ∑ l : Fin 256, (if h : r.val < 16 then a (ix2 ⟨r.val, h⟩ l) else b (ix2 ⟨r.val - 16, by omega⟩ l)) * v (ix2 j l) := by
  pointwise [out80]

theorem out16_apply (a : FVec Ideal S16x256 .bf16) (v : FVec Ideal S256x256 .fp8e4m3)
    (r : Fin 16) (j : Fin 256) : out16 a v (ix2 r j) = ∑ l : Fin 256, a (ix2 r l) * v (ix2 j l) := by
  pointwise [out16]

theorem last16_apply (p : FVec Ideal S64x256 .bf16) (r : Fin 16) (l : Fin 256) :
    last16 p (ix2 r l) = p (ix2 ⟨48 + r.val, by omega⟩ l) := by
  pointwise [last16]

theorem block0_apply (o : FVec Ideal S80x256 .f32) (r : Fin 64) (j : Fin 256) :
    block0 o (ix2 r j) = if r.val = 63 then o (ix2 15 j) else 0 := by
  pointwise [block0]
  simp only [isLast_apply]
  by_cases h63 : r.val = 63
  · obtain rfl : r = 63 := Fin.ext h63
    rfl
  · have h7 : ¬ r.val - 56 = 7 := by omega
    simp only [h63, h7, ↓reduceIte, ValueIdx.select_zero]
    exact dite_eq_ite.trans (ite_self _)

theorem blockN_apply (o : FVec Ideal S80x256 .f32) (tail : FVec Ideal S8x256 .f32) (r : Fin 64) (j : Fin 256) :
    blockN o tail (ix2 r j) = if r.val = 63 then tail (ix2 7 j) else o (ix2 ⟨16 + r.val, by omega⟩ j) := by
  pointwise [blockN]
  simp only [isLast_apply]
  by_cases h63 : r.val = 63
  · obtain rfl : r = 63 := Fin.ext h63
    rfl
  · have h7 : ¬ r.val - 56 = 7 := by omega
    simp only [h63, h7, ↓reduceIte, ValueIdx.select_zero]
    split
    · rfl
    · rename_i h
      refine congrArg (fun c => o (ix2 c j)) (Fin.ext ?_)
      show 16 + (56 + (r.val - 56)) = 16 + r.val
      replace h : ¬ r.val < 56 := h
      omega

/-- A block of results, from row `o` on, read at a row and a column of the padded values. -/
def out (pad : FVec Ideal S192x256 .fp8e4m3 → FVec Ideal S256x256 .fp8e4m3) (a : Inputs Ideal) (t j : Fin 256) : EReal :=
  if t.val < 63 then 0 else ∑ l : Fin 256, pOf a t (chunk t) l * pad (a.v (chunk t)) (ix2 j l)

variable (pad : FVec Ideal S192x256 .fp8e4m3 → FVec Ideal S256x256 .fp8e4m3) (a : Inputs Ideal)

/-- The four products, read at the rows of which the result is made: row 15 and the rows from 16 on but the last. -/
theorem o0_apply (r : Fin 80) (t j : Fin 256) (ht : t.val = 48 + r.val) (hr : 15 ≤ r.val ∧ r.val ≤ 78) :
    o0 pad a (ix2 r j) = out pad a t j := by
  unfold o0 out
  have hc : chunk t = 0 := chunk_eq (by simp only [Fin.val_zero]; omega)
  rw [out80_apply, if_neg (by omega), hc]
  refine Finset.sum_congr rfl fun l _ => ?_
  split
  · obtain rfl : r = 15 := Fin.ext (by show r.val = 15; omega)
    obtain rfl : t = 63 := Fin.ext ht
    exact Ideal.mul_congr (p0_apply a l) rfl
  · rw [p1_apply a _ l t (by simp only []; omega), hc]

/-- A later product. -/
theorem oN_apply (p p' : FVec Ideal S64x256 .bf16) (o : Nat) (u : Fin 4) (ho : o = 64 * u.val + 48)
    (hp : ∀ (r : Fin 64) (l t : Fin 256), t.val = 64 * u.val + r.val → p (ix2 r l) = pOf a t (chunk t) l)
    (hp' : ∀ (r : Fin 64) (l t : Fin 256), t.val = 64 * u.val + 64 + r.val → p' (ix2 r l) = pOf a t (chunk t) l)
    (r : Fin 80) (t j : Fin 256) (ht : t.val = o + r.val) (hr : 15 ≤ r.val ∧ r.val ≤ 78) :
    out80 (last16 p) p' (pad (a.v u)) (ix2 r j) = out pad a t j := by
  unfold out
  have hc : chunk t = u := chunk_eq (by omega)
  rw [out80_apply, if_neg (by omega), hc]
  refine Finset.sum_congr rfl fun l _ => ?_
  split
  · rw [last16_apply, hp _ l t (by simp only []; omega), hc]
  · rw [hp' _ l t (by simp only []; omega), hc]

theorem o3_apply (r : Fin 16) (t j : Fin 256) (ht : t.val = 240 + r.val) (hr : r.val = 15) :
    o3 pad a (ix2 r j) = out pad a t j := by
  unfold o3 out
  have hc : chunk t = 3 := chunk_eq (by show t.val = 63 + 64 * 3 ∨ _; omega)
  rw [out16_apply, if_neg (by omega), hc]
  refine Finset.sum_congr rfl fun l _ => ?_
  rw [last16_apply, p3_apply a _ l t (by simp only []; omega), hc]

theorem o1_apply (r : Fin 80) (t j : Fin 256) (ht : t.val = 112 + r.val) (hr : 15 ≤ r.val ∧ r.val ≤ 78) :
    o1 pad a (ix2 r j) = out pad a t j :=
  oN_apply pad a _ _ 112 1 rfl (fun r l t ht => p1_apply a r l t ht) (fun r l t ht => p2_apply a r l t ht) r t j ht hr

theorem o2_apply (r : Fin 80) (t j : Fin 256) (ht : t.val = 176 + r.val) (hr : 15 ≤ r.val ∧ r.val ≤ 78) :
    o2 pad a (ix2 r j) = out pad a t j :=
  oN_apply pad a _ _ 176 2 rfl (fun r l t ht => p2_apply a r l t ht) (fun r l t ht => p3_apply a r l t ht) r t j ht hr

/-- The four blocks of results. -/
theorem b0_apply (r : Fin 64) (t j : Fin 256) (ht : t.val = r.val) : b0 pad a (ix2 r j) = out pad a t j := by
  unfold b0
  rw [block0_apply]
  split
  · exact o0_apply pad a 15 t j (by show t.val = 48 + 15; omega) (by decide)
  · unfold out; rw [if_pos (by omega)]

theorem b1_apply (r : Fin 64) (t j : Fin 256) (ht : t.val = 64 + r.val) : b1 pad a (ix2 r j) = out pad a t j := by
  unfold b1 tail80
  rw [blockN_apply]
  split
  · pointwise
    exact o1_apply pad a 15 t j (by show t.val = 112 + 15; omega) (by decide)
  · exact o0_apply pad a _ t j (by simp only []; omega) (by simp only []; omega)

theorem b2_apply (r : Fin 64) (t j : Fin 256) (ht : t.val = 128 + r.val) : b2 pad a (ix2 r j) = out pad a t j := by
  unfold b2 tail80
  rw [blockN_apply]
  split
  · pointwise
    exact o2_apply pad a 15 t j (by show t.val = 176 + 15; omega) (by decide)
  · exact o1_apply pad a _ t j (by simp only []; omega) (by simp only []; omega)

theorem b3_apply (r : Fin 64) (t j : Fin 256) (ht : t.val = 192 + r.val) : b3 pad a (ix2 r j) = out pad a t j := by
  unfold b3 tail16
  rw [blockN_apply]
  split
  · pointwise
    exact o3_apply pad a 15 t j (by show t.val = 240 + 15; omega) rfl
  · exact o2_apply pad a _ t j (by simp only []; omega) (by simp only []; omega)

/-- A head's result at a query and a column. -/
def headOut (a : Inputs Ideal) (t : Fin 256) (d : Fin 192) : EReal :=
  if t.val < 63 then 0 else ∑ l : Fin 256, pOf a t (chunk t) l * a.v (chunk t) (ix2 d l)

theorem out_padBelow (t j : Fin 256) (d : Fin 192) (hd : j.val = d.val) : out padBelow a t j = headOut a t d := by
  unfold out headOut
  have e : ∀ h, (⟨j.val, h⟩ : Fin 192) = d := fun h => Fin.ext hd
  simp only [padBelow_apply, show j.val < 192 from hd ▸ d.isLt, ↓reduceDIte, e]

theorem out_padAbove (t j : Fin 256) (d : Fin 192) (hd : j.val = 64 + d.val) : out padAbove a t j = headOut a t d := by
  unfold out headOut
  have e : ∀ h, (⟨j.val - 64, h⟩ : Fin 192) = d := fun h => Fin.ext (by show j.val - 64 = d.val; omega)
  simp only [padAbove_apply, show ¬ j.val < 64 by omega, ↓reduceDIte, e]

/-- A column of the middle tile is the first head's below 64. -/
theorem select_below64 : ∀ n : Fin 128, IntOp.cmpi CmpIPredicate.slt (BitVec.ofNat 32 n.val) 64#32 = if n.val < 64 then 1#1 else 0#1 := by
  decide

/-- Two heads' blocks side by side. -/
theorem tile_apply (a b : FVec Ideal S64x256 .f32) (r : Fin 64) (c : Fin 384) :
    tile a b (ix2 r c) = if h : c.val < 192 then a (ix2 r ⟨c.val, by omega⟩) else b (ix2 r ⟨c.val - 128, by omega⟩) := by
  pointwise [tile]
  by_cases h1 : c.val < 128
  · have h2 : c.val < 192 := by omega
    simp only [h1, h2, ↓reduceDIte]
  by_cases h3 : c.val - 128 < 128
  · have hs := select_below64 ⟨c.val - 128, h3⟩
    simp only [h1, h3, ↓reduceDIte]
    by_cases h2 : c.val < 192
    · have h4 : c.val - 128 < 64 := by omega
      simp only [h4, ↓reduceIte] at hs
      simp only [hs, h2, ↓reduceDIte, ValueIdx.select_one]
      exact congrArg (fun c => a (ix2 r c)) (Fin.ext (by show 128 + (c.val - 128) = c.val; omega))
    · have h4 : ¬ c.val - 128 < 64 := by omega
      simp only [h4, ↓reduceIte] at hs
      simp only [hs, h2, ↓reduceDIte, ValueIdx.select_zero]
  · have h2 : ¬ c.val < 192 := by omega
    simp only [h1, h2, h3, ↓reduceDIte]
    exact congrArg (fun c => b (ix2 r c)) (Fin.ext (by show 128 + (c.val - 128 - 128) = c.val - 128; omega))

end Cert.KernelIdeal.Head

end
-- ==== Proof.Softmax.lean ====
module

public import proofs.«01_k».proof.Proof.Quantiser
public import proofs.«01_k».proof.Proof.HeadValue

@[expose] public section

/-!
The two softmaxes agree.

The kernel folds `1 / log 2` into its scores and takes powers of two; the reference takes
exponentials.  Both are total on extended reals, infinities included.
-/

set_option maxRecDepth 16384

noncomputable section

namespace Cert.Softmax

open Idealize.ShloMosaic Idealize.SL.Sem
open Cert.KernelIdeal.Head Cert.ReferenceIdeal.Hand

/-- The factor between the kernel's scores and the reference's. -/
def invLog : ℝ := (Real.log 2)⁻¹

/-- The factor is positive. -/
theorem invLog_pos : 0 < invLog := inv_pos.mpr (Real.log_pos (by norm_num))

/-- The power of two of a scaled score is the exponential of the score. -/
theorem exp2_scaled (y : EReal) : Ideal.exp2 (y * (invLog : EReal)) = Ideal.exp y := by
  induction y with
  | bot => rw [EReal.bot_mul_coe_of_pos invLog_pos, Ideal.exp2_bot, Ideal.exp_bot]
  | top => rw [EReal.top_mul_coe_of_pos invLog_pos, Ideal.exp2_top, Ideal.exp_top]
  | coe r =>
    rw [← EReal.coe_mul, Ideal.exp2_coe, Ideal.exp_coe]
    refine EReal.coe_eq_coe_iff.mpr ?_
    show (2 : ℝ) ^ (r * invLog) = Real.exp r
    have h : Real.log 2 ≠ 0 := (Real.log_pos (by norm_num)).ne'
    rw [Real.rpow_def_of_pos (by norm_num), invLog]
    congr 1
    field_simp

/-- The largest of the scaled scores is the largest score, scaled. -/
theorem max_scaled (s : Fin 256 → EReal) :
    Finset.univ.fold max ⊥ (fun l => s l * (invLog : EReal))
      = Finset.univ.fold max ⊥ s * (invLog : EReal) := by
  have hm : ∀ x y : EReal, max x y * (invLog : EReal) = max (x * (invLog : EReal)) (y * (invLog : EReal)) := by
    have hmono : Monotone fun x : EReal => x * (invLog : EReal) := fun a b hab =>
      mul_le_mul_of_nonneg_right hab (by exact_mod_cast invLog_pos.le)
    exact fun x y => hmono.map_max
  have := Finset.fold_hom (op := (max : EReal → EReal → EReal)) (op' := max)
    (m := fun x : EReal => x * (invLog : EReal)) (b := ⊥) (f := s) (s := Finset.univ) hm
  rw [EReal.bot_mul_coe_of_pos invLog_pos] at this
  exact this

/-- A difference of scaled scores is the scaled difference. -/
theorem sub_scaled (a b : EReal) :
    a * (invLog : EReal) - b * (invLog : EReal) = (a - b) * (invLog : EReal) := by
  rw [sub_eq_add_neg, sub_eq_add_neg, ← EReal.neg_mul,
    EReal.right_distrib_of_nonneg_of_ne_top (by exact_mod_cast invLog_pos.le) (EReal.coe_ne_top _)]

/-- The kernel's row of weights of the scaled scores is the reference's softmax of the scores. -/
theorem row_scaled (s : Fin 256 → EReal) (l : Fin 256) :
    row (fun l => s l * (invLog : EReal)) l = softRow s l := by
  unfold row softRow
  simp only [max_scaled, sub_scaled, exp2_scaled, Cert.Quantiser.neg_inf]

end Cert.Softmax
end
-- ==== Proof.Entry.lean ====
/- The blocks of a grid step in terms of the launch's arguments: the transposes before the launch and the index maps. -/
module

public import proofs.«01_k».proof.Proof.Frame
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Hand

open Cert.KernelIdeal Cert.KernelIdeal.Gen Cert.KernelIdeal.Head
open Idealize.ShloMosaic Idealize.ShloMosaic.TcCoe Idealize.SL.Sem

variable (m : (ℓ : Loc nD τ sig) → Buf (Elt Ideal) ℓ) (c : Dev nD)

/-- The five arguments of device `c`. -/
abbrev argX : Vec Ideal S1x256x48x192 .bf16 := m ((c : Thread nD τ).loc main_arg0)
@[inherit_doc argX] abbrev argK : Vec Ideal S1x4x2x128x48x192 .fp8e4m3 := m ((c : Thread nD τ).loc main_arg1)
@[inherit_doc argX] abbrev argKs : Vec Ideal S1x4x2x128x48 .f32 := m ((c : Thread nD τ).loc main_arg2)
@[inherit_doc argX] abbrev argV : Vec Ideal S1x4x2x128x48x192 .fp8e4m3 := m ((c : Thread nD τ).loc main_arg3)
@[inherit_doc argX] abbrev argVs : Vec Ideal S1x4x2x128x48 .f32 := m ((c : Thread nD τ).loc main_arg4)

/-- The queries, transposed. -/
theorem entryX (h : Fin 48) (d : Fin 192) (q : Fin 256) :
    (V m c main_v1 : Vec Ideal S48x192x256 .bf16) (ix3 h d q) = argX m c (ix4 0 q h d) := by
  unfold V argX
  after_reads_at

/-- The keys, transposed. -/
theorem entryK (u : Fin 4) (n : Fin 2) (h : Fin 48) (d : Fin 192) (l : Fin 128) :
    (V m c main_v3 : Vec Ideal S4x2x48x192x128 .fp8e4m3) (ix5 u n h d l) = argK m c (ix6 0 u n l h d) := by
  unfold V argK
  after_reads_at

/-- The values, transposed. -/
theorem entryV (u : Fin 4) (n : Fin 2) (h : Fin 48) (d : Fin 192) (l : Fin 128) :
    (V m c main_v5 : Vec Ideal S4x2x48x192x128 .fp8e4m3) (ix5 u n h d l) = argV m c (ix6 0 u n l h d) := by
  unfold V argV
  after_reads_at

/-- The key scales, transposed. -/
theorem entryKs (u : Fin 4) (n : Fin 2) (h : Fin 48) (l : Fin 128) :
    (V m c main_v7 : Vec Ideal S4x2x48x128 .f32) (ix4 u n h l) = argKs m c (ix5 0 u n l h) := by
  unfold V argKs
  after_reads_at

/-- The value scales, transposed. -/
theorem entryVs (u : Fin 4) (n : Fin 2) (h : Fin 48) (l : Fin 128) :
    (V m c main_v9 : Vec Ideal S4x2x48x128 .f32) (ix4 u n h l) = argVs m c (ix5 0 u n l h) := by
  unfold V argVs
  after_reads_at

/-- The index map of the blocks of heads. -/
theorem index0 : ∀ t : Fin cfg0.N, win0_0.index t = ![t.val, 0, 0] := by decide +kernel
theorem index1 : ∀ t : Fin cfg0.N, win0_1.index t = ![0, 0, t.val, 0, 0] := by decide +kernel
theorem index2 : ∀ t : Fin cfg0.N, win0_2.index t = ![0, 0, 0, 0] := by decide +kernel
theorem index3 : ∀ t : Fin cfg0.N, win0_3.index t = ![0, 0, t.val, 0, 0] := by decide +kernel
theorem index4 : ∀ t : Fin cfg0.N, win0_4.index t = ![0, 0, 0, 0] := by decide +kernel

/-- A step's block of queries: the four heads from `4 t` on. -/
theorem xBlk_apply (t : Fin cfg0.N) (r : Fin 4) (d : Fin 192) (q : Fin 256) (h : Fin 48) (hh : h.val = 4 * t.val + r.val) :
    xBlk m c t (ix3 r d q) = argX m c (ix4 0 q h d) := by
  rw [← entryX]
  refine congrArg (V m c main_v1 : Vec Ideal S48x192x256 .bf16) (funext fun a => Fin.ext ?_)
  fin_cases a <;> blk_simp [index0]
  · show t.val * 4 + r.val = h.val; omega
  · rfl
  · rfl

/-- A step's block of keys. -/
theorem kBlk_apply (t : Fin cfg0.N) (u : Fin 4) (n : Fin 2) (r : Fin 4) (d : Fin 192) (l : Fin 128) (h : Fin 48)
    (hh : h.val = 4 * t.val + r.val) : kBlk m c t (ix5 u n r d l) = argK m c (ix6 0 u n l h d) := by
  rw [← entryK]
  refine congrArg (V m c main_v3 : Vec Ideal S4x2x48x192x128 .fp8e4m3) (funext fun a => Fin.ext ?_)
  fin_cases a <;> blk_simp [index1]
  · rfl
  · rfl
  · show t.val * 4 + r.val = h.val; omega
  · rfl
  · rfl

/-- A step's block of values. -/
theorem vBlk_apply (t : Fin cfg0.N) (u : Fin 4) (n : Fin 2) (r : Fin 4) (d : Fin 192) (l : Fin 128) (h : Fin 48)
    (hh : h.val = 4 * t.val + r.val) : vBlk m c t (ix5 u n r d l) = argV m c (ix6 0 u n l h d) := by
  rw [← entryV]
  refine congrArg (V m c main_v5 : Vec Ideal S4x2x48x192x128 .fp8e4m3) (funext fun a => Fin.ext ?_)
  fin_cases a <;> blk_simp [index3]
  · rfl
  · rfl
  · show t.val * 4 + r.val = h.val; omega
  · rfl
  · rfl

/-- The key scales, all of them at every step. -/
theorem ksBlk_apply (t : Fin cfg0.N) (u : Fin 4) (n : Fin 2) (h : Fin 48) (l : Fin 128) :
    ksBlk m c t (ix4 u n h l) = argKs m c (ix5 0 u n l h) := by
  rw [← entryKs]
  refine congrArg (V m c main_v7 : Vec Ideal S4x2x48x128 .f32) (funext fun a => Fin.ext ?_)
  fin_cases a <;> blk_simp [index2] <;> rfl

/-- The value scales, all of them at every step. -/
theorem vsBlk_apply (t : Fin cfg0.N) (u : Fin 4) (n : Fin 2) (h : Fin 48) (l : Fin 128) :
    vsBlk m c t (ix4 u n h l) = argVs m c (ix5 0 u n l h) := by
  rw [← entryVs]
  refine congrArg (V m c main_v9 : Vec Ideal S4x2x48x128 .f32) (funext fun a => Fin.ext ?_)
  fin_cases a <;> blk_simp [index4] <;> rfl

end Cert.KernelIdeal.Hand

end
-- ==== Proof.Blocks.lean ====
/- What a grid step leaves, read at an index: the block of results at a query and a column, the block of codes, and the
   inputs of each head in terms of the step's five input blocks. -/
module

public import proofs.«01_k».proof.Proof.HeadValue
public import proofs.«01_k».proof.Proof.Rows
public import Idealize.ShloMosaic.Lib.Pipeline.ValueKit

@[expose] public section

set_option maxRecDepth 16384

noncomputable section

namespace Cert.KernelIdeal.Hand

open Cert.KernelIdeal Cert.KernelIdeal.Gen Cert.KernelIdeal.Head
open Idealize.ShloMosaic Idealize.SL.Sem

/-- One tile of results, from row `o` on, of the heads of `a` and `b`. -/
theorem tile_out (a b : Inputs Ideal) (p q : FVec Ideal S64x256 .f32) (o : Nat)
    (hp : ∀ (r : Fin 64) (t j : Fin 256), t.val = o + r.val → p (ix2 r j) = out padBelow a t j)
    (hq : ∀ (r : Fin 64) (t j : Fin 256), t.val = o + r.val → q (ix2 r j) = out padAbove b t j)
    (r : Fin 64) (c : Fin 384) (t : Fin 256) (ht : t.val = o + r.val) :
    tile p q (ix2 r c) = if h : c.val < 192 then headOut a t ⟨c.val, h⟩ else headOut b t ⟨c.val - 192, by omega⟩ := by
  rw [tile_apply]
  by_cases h : c.val < 192
  · rw [dif_pos h, dif_pos h, hp r t _ ht, out_padBelow a t _ ⟨c.val, h⟩ rfl]
  · rw [dif_neg h, dif_neg h, hq r t _ ht, out_padAbove b t _ ⟨c.val - 192, by omega⟩ (by show c.val - 128 = 64 + (c.val - 192); omega)]

variable (i : grid0.Coords) (x0 : Vec Ideal S4x192x256 .bf16) (x1 : Vec Ideal S4x2x4x192x128 .fp8e4m3)
  (x2 : Vec Ideal S4x2x48x128 .f32) (x3 : Vec Ideal S4x2x4x192x128 .fp8e4m3) (x4 : Vec Ideal S4x2x48x128 .f32)

/-- The result of a step at query `t` and column `c`: head `c / 192` of the step's four, its column `c % 192`. -/
def stepOut (t : Fin 256) (c : Fin 768) : EReal :=
  headOut (inputs i ⟨c.val / 192, by omega⟩ x0 x1 x2 x3 x4) t ⟨c.val % 192, Nat.mod_lt _ (by decide)⟩

/-- One piece of the block of results holds what the step is to leave there. -/
theorem tileAt (y : S256x768.Idx) (g o : Nat) (ra rb : Fin 4) (hra : ra.val = g / 192) (hrb : rb.val = g / 192 + 1) (hg : g = 0 ∨ g = 384)
    (p q : FVec Ideal S64x256 .f32)
    (hp : ∀ (r : Fin 64) (t j : Fin 256), t.val = o + r.val → p (ix2 r j) = out padBelow (inputs i ra x0 x1 x2 x3 x4) t j)
    (hq : ∀ (r : Fin 64) (t j : Fin 256), t.val = o + r.val → q (ix2 r j) = out padAbove (inputs i rb x0 x1 x2 x3 x4) t j) :
    View.TileAt (Val := Elt Ideal) (e := .bf16) y ![o, g] S64x384.size (tile p q) (stepOut i x0 x1 x2 x3 x4 (y 0) (y 1)) := by
  intro x hx
  obtain ⟨r, c, rfl⟩ : ∃ (r : Fin 64) (c : Fin 384), x = ix2 r c := ⟨x 0, x 1, eq_ix2 x⟩
  have hr := hx 0
  have hc := hx 1
  replace hr : (y 0).val = o + r.val := hr
  replace hc : (y 1).val = g + c.val := hc
  rw [tile_out (inputs i ra x0 x1 x2 x3 x4) (inputs i rb x0 x1 x2 x3 x4) p q o hp hq r c (y 0) hr]
  unfold stepOut
  have h1 : (y 1).val < 768 := (y 1).isLt
  have hcl := c.isLt
  by_cases h : c.val < 192
  · have e : (⟨(y 1).val / 192, by omega⟩ : Fin 4) = ra := Fin.ext (by show (y 1).val / 192 = ra.val; omega)
    have f : (⟨(y 1).val % 192, Nat.mod_lt _ (by decide)⟩ : Fin 192) = ⟨c.val, h⟩ := Fin.ext (by show (y 1).val % 192 = c.val; omega)
    rw [dif_pos h, e, f]
  · have e : (⟨(y 1).val / 192, by omega⟩ : Fin 4) = rb := Fin.ext (by show (y 1).val / 192 = rb.val; omega)
    have f : (⟨(y 1).val % 192, Nat.mod_lt _ (by decide)⟩ : Fin 192) = ⟨c.val - 192, by omega⟩ := Fin.ext (by show (y 1).val % 192 = c.val - 192; omega)
    rw [dif_neg h, e, f]

theorem outTiles_apply (t : Fin 256) (c : Fin 768) :
    outTiles i x0 x1 x2 x3 x4 (ix2 t c) = stepOut i x0 x1 x2 x3 x4 t c := by
  unfold outTiles
  refine View.canon_eq_of_allAt _ (ix2 t c) _ (View.cover_of_tiled _ ![64, 384] (by rfl) _) ?_
  refine View.allAt_cons_unit _ _ _ _ _ (tileAt i x0 x1 x2 x3 x4 (ix2 t c) 384 192 2 3 rfl rfl (.inr rfl) _ _ (fun r t j h => b3_apply _ _ r t j h) (fun r t j h => b3_apply _ _ r t j h)) ?_
  refine View.allAt_cons_unit _ _ _ _ _ (tileAt i x0 x1 x2 x3 x4 (ix2 t c) 384 128 2 3 rfl rfl (.inr rfl) _ _ (fun r t j h => b2_apply _ _ r t j h) (fun r t j h => b2_apply _ _ r t j h)) ?_
  refine View.allAt_cons_unit _ _ _ _ _ (tileAt i x0 x1 x2 x3 x4 (ix2 t c) 384 64 2 3 rfl rfl (.inr rfl) _ _ (fun r t j h => b1_apply _ _ r t j h) (fun r t j h => b1_apply _ _ r t j h)) ?_
  refine View.allAt_cons_unit _ _ _ _ _ (tileAt i x0 x1 x2 x3 x4 (ix2 t c) 384 0 2 3 rfl rfl (.inr rfl) _ _ (fun r t j h => b0_apply _ _ r t j (by omega)) (fun r t j h => b0_apply _ _ r t j (by omega))) ?_
  refine View.allAt_cons_unit _ _ _ _ _ (tileAt i x0 x1 x2 x3 x4 (ix2 t c) 0 192 0 1 rfl rfl (.inl rfl) _ _ (fun r t j h => b3_apply _ _ r t j h) (fun r t j h => b3_apply _ _ r t j h)) ?_
  refine View.allAt_cons_unit _ _ _ _ _ (tileAt i x0 x1 x2 x3 x4 (ix2 t c) 0 128 0 1 rfl rfl (.inl rfl) _ _ (fun r t j h => b2_apply _ _ r t j h) (fun r t j h => b2_apply _ _ r t j h)) ?_
  refine View.allAt_cons_unit _ _ _ _ _ (tileAt i x0 x1 x2 x3 x4 (ix2 t c) 0 64 0 1 rfl rfl (.inl rfl) _ _ (fun r t j h => b1_apply _ _ r t j h) (fun r t j h => b1_apply _ _ r t j h)) ?_
  refine View.allAt_cons_unit _ _ _ _ _ (tileAt i x0 x1 x2 x3 x4 (ix2 t c) 0 0 0 1 rfl rfl (.inl rfl) _ _ (fun r t j h => b0_apply _ _ r t j (by omega)) (fun r t j h => b0_apply _ _ r t j (by omega))) ?_
  exact View.allAt_nil _ _

/-- A head's queries in the step's block. -/
theorem headX_apply (r : Fin 4) (d : Fin 192) (t : Fin 256) : headX x0 r (ix2 d t) = x0 (ix3 r d t) := by
  unfold headX
  pointwise [queries]

/-- One head's piece of the block of codes. -/
theorem codesAt (r : Fin 4) (y : S4x192x256.Idx) :
    View.TileAt (Val := Elt Ideal) (e := .fp8e4m3) y ![r.val, 0, 0] S1x192x256.size
      (shapeCast S1x192x256 (codes (headX x0 r)) shapeCasts_S192x256_S1x192x256) (values (headX x0 (y 0)) (ix2 (y 1) (y 2))) := by
  intro x hx
  have h0 := hx 0
  have h1 := hx 1
  have h2 := hx 2
  have hx0 : (x 0).val < 1 := (x 0).isLt
  replace h0 : (y 0).val = r.val + (x 0).val := h0
  replace h1 : (y 1).val = 0 + (x 1).val := h1
  replace h2 : (y 2).val = 0 + (x 2).val := h2
  have e0 : (y 0 : Fin 4) = r := Fin.ext (by show (y 0).val = r.val; omega)
  have e1 : (y 1 : Fin 192) = x 1 := Fin.ext (by show (y 1).val = (x 1).val; omega)
  have e2 : (y 2 : Fin 256) = x 2 := Fin.ext (by show (y 2).val = (x 2).val; omega)
  have hc : ∀ (w : FVec Ideal S192x256 .fp8e4m3) (x : S1x192x256.Idx),
      shapeCast S1x192x256 w shapeCasts_S192x256_S1x192x256 x = w (ix2 (x 1) (x 2)) := by
    intro w x
    idx_vars x
    pointwise
  rw [e0]
  refine (hc _ x).trans ?_
  refine congrArg (values (headX x0 r)) ?_
  exact (congrArg₂ ix2 e1 e2).symm

theorem codesBlock_apply (r : Fin 4) (d : Fin 192) (t : Fin 256) :
    codesBlock x0 (ix3 r d t) = values (headX x0 r) (ix2 d t) := by
  unfold codesBlock
  refine View.canon_eq_of_allAt _ (ix3 r d t) _ (View.cover_of_tiled _ ![1, 192, 256] (by rfl) _) ?_
  exact View.allAt_cons_unit _ _ _ _ _ (codesAt x0 3 (ix3 r d t)) <| View.allAt_cons_unit _ _ _ _ _ (codesAt x0 2 (ix3 r d t)) <|
    View.allAt_cons_unit _ _ _ _ _ (codesAt x0 1 (ix3 r d t)) <| View.allAt_cons_unit _ _ _ _ _ (codesAt x0 0 (ix3 r d t)) <| View.allAt_nil _ _

theorem inputs_x (r : Fin 4) (d : Fin 192) (t : Fin 256) : (inputs i r x0 x1 x2 x3 x4).x (ix2 d t) = x0 (ix3 r d t) :=
  headX_apply x0 r d t

/-- The two neighbours side by side: key `l` of a chunk is key `l % 128` of neighbour `l / 128`. -/
theorem halves (l : Fin 256) (f : Fin 2 → Fin 128 → EReal) :
    (if h : l.val < 128 then f 0 ⟨l.val, h⟩ else f 1 ⟨l.val - 128, by omega⟩)
      = f ⟨l.val / 128, by omega⟩ ⟨l.val % 128, Nat.mod_lt _ (by decide)⟩ := by
  by_cases h : l.val < 128
  · rw [dif_pos h]
    exact congrArg₂ f (Fin.ext (by show 0 = l.val / 128; omega)) (Fin.ext (by show l.val = l.val % 128; omega))
  · rw [dif_neg h]
    exact congrArg₂ f (Fin.ext (by show 1 = l.val / 128; omega)) (Fin.ext (by show l.val - 128 = l.val % 128; omega))

/-- Where the scales of a step's head lie. -/
theorem scaleOff_eq (r u : Fin 4) (n : Fin 2) : scaleOff i r u n = ![u.val, n.val, 4 * (i 0).val + r.val, 0] := by
  have h : ∀ (n : Fin 12) (r : Fin 4),
      (Scalar.indexCast (Scalar.addi (Scalar.muli (BitVec.ofNat 32 n.val) 4#32) (BitVec.ofNat 32 r.val))).toNat
        = 4 * n.val + r.val := by decide
  have e := h (i 0) r
  unfold scaleOff
  rw [e]

/-- A load of 128 scales. -/
theorem ldScale (x : Vec Ideal S4x2x48x128 .f32) (r u : Fin 4) (n : Fin 2) (l : Fin 128) :
    View.ld x (Rect.unit (s := S4x2x48x128) (scaleOff i r u n) S1x1x1x128.size (scaleOff_inb i r u n)) (ix4 0 0 0 l)
      = x (ix4 u n ⟨4 * (i 0).val + r.val, by have : (i 0).val < 12 := (i 0).isLt; omega⟩ l) := by
  refine congrArg x (funext fun a => Fin.ext ?_)
  have e : scaleOff i r u n a = _ := congrFun (scaleOff_eq i r u n) a
  refine (congrArg (· + 1 * ((ix4 0 0 0 l : S1x1x1x128.Idx) a).val) e).trans ?_
  match a with
  | ⟨0, _⟩ => show u.val + 1 * 0 = u.val; omega
  | ⟨1, _⟩ => show n.val + 1 * 0 = n.val; omega
  | ⟨2, _⟩ => show 4 * (i 0).val + r.val + 1 * 0 = 4 * (i 0).val + r.val; omega
  | ⟨3, _⟩ => show 0 + 1 * l.val = l.val; omega

/-- The 256 scales of a chunk. -/
theorem keyRow_apply (x : Vec Ideal S4x2x48x128 .f32) (r u : Fin 4) (l : Fin 256) :
    keyRow (View.ld x (Rect.unit (s := S4x2x48x128) (scaleOff i r u 0) S1x1x1x128.size (scaleOff_inb i r u 0)))
      (View.ld x (Rect.unit (s := S4x2x48x128) (scaleOff i r u 1) S1x1x1x128.size (scaleOff_inb i r u 1))) (ix2 0 l)
      = x (ix4 u ⟨l.val / 128, by omega⟩ ⟨4 * (i 0).val + r.val, by have : (i 0).val < 12 := (i 0).isLt; omega⟩ ⟨l.val % 128, Nat.mod_lt _ (by decide)⟩) := by
  have h0 := ldScale i x r u 0
  have h1 := ldScale i x r u 1
  generalize View.ld x (Rect.unit (s := S4x2x48x128) (scaleOff i r u 0) S1x1x1x128.size (scaleOff_inb i r u 0)) = y0 at h0 ⊢
  generalize View.ld x (Rect.unit (s := S4x2x48x128) (scaleOff i r u 1) S1x1x1x128.size (scaleOff_inb i r u 1)) = y1 at h1 ⊢
  pointwise [keyRow]
  refine Eq.trans ?_ (halves l (fun n l => x (ix4 u n ⟨4 * (i 0).val + r.val, by have : (i 0).val < 12 := (i 0).isLt; omega⟩ l)))
  split
  · exact h0 _
  · exact h1 _

theorem inputs_k (r u : Fin 4) (d : Fin 192) (l : Fin 256) :
    (inputs i r x0 x1 x2 x3 x4).k u (ix2 d l) = x1 (ix5 u ⟨l.val / 128, by omega⟩ r d ⟨l.val % 128, Nat.mod_lt _ (by decide)⟩) := by
  show keyMat _ _ (ix2 d l) = _
  pointwise [keyMat]
  exact halves l (fun n l => x1 (ix5 u n r d l))

theorem inputs_kn (r u : Fin 4) (l : Fin 256) :
    (inputs i r x0 x1 x2 x3 x4).kn u (ix2 0 l) = x2 (ix4 u ⟨l.val / 128, by omega⟩ ⟨4 * (i 0).val + r.val, by have : (i 0).val < 12 := (i 0).isLt; omega⟩ ⟨l.val % 128, Nat.mod_lt _ (by decide)⟩) * Named.named (F := Ideal) κ "scale_log2e" (φ := .f32) 0x3DD53B95#32 := by
  show keyRowN _ _ (ix2 0 l) = _
  pointwise [keyRowN]
  rw [keyRow_apply]

theorem inputs_v (r u : Fin 4) (d : Fin 192) (l : Fin 256) :
    (inputs i r x0 x1 x2 x3 x4).v u (ix2 d l) = x3 (ix5 u ⟨l.val / 128, by omega⟩ r d ⟨l.val % 128, Nat.mod_lt _ (by decide)⟩) := by
  show keyMat _ _ (ix2 d l) = _
  pointwise [keyMat]
  exact halves l (fun n l => x3 (ix5 u n r d l))

theorem inputs_vs (r u : Fin 4) (l : Fin 256) :
    (inputs i r x0 x1 x2 x3 x4).vs u (ix2 0 l) = x4 (ix4 u ⟨l.val / 128, by omega⟩ ⟨4 * (i 0).val + r.val, by have : (i 0).val < 12 := (i 0).isLt; omega⟩ ⟨l.val % 128, Nat.mod_lt _ (by decide)⟩) :=
  keyRow_apply i x4 r u l

end Cert.KernelIdeal.Hand

end
-- ==== Proof.Arrays.lean ====
/- The three result arrays after the kernel's run, read at an index. -/
module

public import proofs.«01_k».proof.Proof.Entry
public import proofs.«01_k».proof.Proof.Blocks
public import Idealize.ShloMosaic.Lib.Pipeline.ArrRel
public import Idealize.ShloMosaic.Lib.Pipeline.Covers

@[expose] public section

set_option maxRecDepth 16384

noncomputable section

namespace Cert.KernelIdeal.Hand

open Cert.KernelIdeal Cert.KernelIdeal.Gen Cert.KernelIdeal.Head
open Idealize.ShloMosaic Idealize.ShloMosaic.TcCoe Idealize.SL.Sem

variable (m : (ℓ : Loc nD τ sig) → Buf (Elt Ideal) ℓ) (ρ : Dev nD → PrngReg) (c : Dev nD)

/-- The grid step that does head `h`. -/
def stepOf (h : Fin 48) : Fin cfg0.N := ⟨h.val / 4, by show h.val / 4 < grid0.N; rw [N_0]; omega⟩

/-- Head `h`'s inputs, as its step has them. -/
def headIn (h : Fin 48) : Inputs Ideal :=
  inputs (grid0.coords (stepOf h)) ⟨h.val % 4, Nat.mod_lt _ (by decide)⟩ (xBlk m c (stepOf h)) (kBlk m c (stepOf h))
    (ksBlk m c (stepOf h)) (vBlk m c (stepOf h)) (vsBlk m c (stepOf h))

/-- The results: row `q`, head `j / 192`, its column `j % 192`. -/
def outArr : Vec Ideal S256x9216 .bf16 := fun i =>
  headOut (headIn m c ⟨(i 1).val / 192, by have : (i 1).val < 9216 := (i 1).isLt; omega⟩) (i 0) ⟨(i 1).val % 192, Nat.mod_lt _ (by decide)⟩

/-- The codes: head, column of the head, query. -/
def codesArr : Vec Ideal S48x192x256 .fp8e4m3 := fun i => values (headIn m c (i 0)).x (ix2 (i 1) (i 2))

/-- The scales: head, query. -/
def scalesArr : Vec Ideal S48x256 .f32 := fun i => scale (headIn m c (i 0)).x (ix2 0 (i 1))

theorem index5 : ∀ t : Fin cfg0.N, win0_5.index t = ![0, t.val] := by decide +kernel
theorem index6 : ∀ t : Fin cfg0.N, win0_6.index t = ![t.val, 0, 0] := by decide +kernel

theorem covers5 : (cfg0.win 5).Covers := by decide +kernel
theorem covers6 : (cfg0.win 6).Covers := by decide +kernel
theorem wholeAt7 : (cfg0.win 7).WholeAt t0_11 := by decide +kernel

/-- A step leaves its part of the results. -/
theorem outArr_block (t : Fin cfg0.N) (q : Fin 256) (j : Fin 768) (i : S256x9216.Idx) (h0 : (i 0).val = q.val)
    (h1 : (i 1).val = t.val * 768 + j.val) :
    outTiles (grid0.coords t) (xBlk m c t) (kBlk m c t) (ksBlk m c t) (vBlk m c t) (vsBlk m c t) (ix2 q j) = outArr m c i := by
  rw [outTiles_apply]
  unfold stepOut outArr headIn
  have hi : (i 1).val < 9216 := (i 1).isLt
  have hj := j.isLt
  have ht : t.val < 12 := t.isLt
  have e0 : q = i 0 := Fin.ext h0.symm
  obtain ⟨k, hk⟩ : ∃ k : Fin 48, k = ⟨(i 1).val / 192, by omega⟩ := ⟨_, rfl⟩
  have hk' : k.val = (i 1).val / 192 := congrArg Fin.val hk
  have e1 : t = stepOf k := Fin.ext (by show t.val = k.val / 4; omega)
  have e2 : (⟨j.val / 192, by omega⟩ : Fin 4) = ⟨k.val % 4, Nat.mod_lt _ (by decide)⟩ :=
    Fin.ext (by show j.val / 192 = k.val % 4; omega)
  have e3 : (⟨j.val % 192, Nat.mod_lt _ (by decide)⟩ : Fin 192) = ⟨(i 1).val % 192, Nat.mod_lt _ (by decide)⟩ :=
    Fin.ext (by show j.val % 192 = (i 1).val % 192; omega)
  rw [e0, e2, e3, e1, ← hk]

/-- The same at an index of the block. -/
theorem outArr_at (t : Fin cfg0.N) (y : S256x768.Idx) (i : S256x9216.Idx) (h0 : (i 0).val = (y 0).val)
    (h1 : (i 1).val = t.val * 768 + (y 1).val) :
    outTiles (grid0.coords t) (xBlk m c t) (kBlk m c t) (ksBlk m c t) (vBlk m c t) (vsBlk m c t) y = outArr m c i := by
  rw [eq_ix2 y]
  exact outArr_block m c t (y 0) (y 1) i h0 h1

/-- What the body leaves in a window that is named exactly. -/
theorem left_eq (w : Fin cfg0.W) (hw : marked w = false) (hl : cfg0.loose w = false) (t : Fin cfg0.N)
    (X : (cfg0.win w).block.Idx → Elt Ideal (cfg0.win w).elt) (hf : (cfg0.win w).flush t = true)
    (h : (rdat m c).Leaves w t X) : X = (dats m 0 c).after w t := by
  obtain ⟨Y, _, hL⟩ := h
  rw [(dats m 0 c).toRRel_after_of_eq_false hw] at hL
  replace hL : (dats m 0 c).Leaves w t X := hL
  rw [Pipeline.Dat.Leaves.live_iff _ (.inr hf)] at hL
  rw [hl] at hL
  exact hL

/-- The results' array after the run. -/
theorem arr5 (G : Vec Ideal S256x9216 .bf16) (h : (rdat m c).ArrAt 5 cfg0.N G) : G = outArr m c := by
  obtain ⟨X, hX, hA⟩ := h.exists_exact
  have e := hA (Function.update (fun _ _ _ => Classical.arbitrary _) 5 X) fun u _ _ => by rw [Function.update_self]
  refine e.trans ?_
  refine Pipeline.Dat.arrAt_eq_of_covers _ 5 _ covers5 fun t hf y => ?_
  have hL := left_eq m c 5 rfl rfl t _ hf (hX t t.isLt hf)
  rw [Pipeline.RDat.withAfter_after, Function.update_self, hL, after0_5]
  blk_simp
  refine outArr_at m c t y _ ?_ ?_ <;> blk_simp [index5]

/-- A step leaves its part of the codes. -/
theorem codesArr_block (t : Fin cfg0.N) (r : Fin 4) (d : Fin 192) (q : Fin 256) (i : S48x192x256.Idx)
    (h0 : (i 0).val = t.val * 4 + r.val) (h1 : (i 1).val = d.val) (h2 : (i 2).val = q.val) :
    codesBlock (xBlk m c t) (ix3 r d q) = codesArr m c i := by
  rw [codesBlock_apply]
  have hi : (i 0).val < 48 := (i 0).isLt
  have hr := r.isLt
  have e0 : t = stepOf (i 0) := Fin.ext (by show t.val = (i 0).val / 4; omega)
  have e1 : r = ⟨(i 0).val % 4, Nat.mod_lt _ (by decide)⟩ := Fin.ext (by show r.val = (i 0).val % 4; omega)
  have e2 : d = i 1 := Fin.ext h1.symm
  have e3 : q = i 2 := Fin.ext h2.symm
  rw [e2, e3]
  subst e0 e1
  rfl

/-- The same at an index of the block. -/
theorem codesArr_at (t : Fin cfg0.N) (y : S4x192x256.Idx) (i : S48x192x256.Idx)
    (h0 : (i 0).val = t.val * 4 + (y 0).val) (h1 : (i 1).val = (y 1).val) (h2 : (i 2).val = (y 2).val) :
    codesBlock (xBlk m c t) y = codesArr m c i := by
  rw [eq_ix3 y]
  exact codesArr_block m c t (y 0) (y 1) (y 2) i h0 h1 h2

/-- The codes' array after the run. -/
theorem arr6 (G : Vec Ideal S48x192x256 .fp8e4m3) (h : (rdat m c).ArrAt 6 cfg0.N G) : G = codesArr m c := by
  obtain ⟨X, hX, hA⟩ := h.exists_exact
  have e := hA (Function.update (fun _ _ _ => Classical.arbitrary _) 6 X) fun u _ _ => by rw [Function.update_self]
  refine e.trans ?_
  refine Pipeline.Dat.arrAt_eq_of_covers _ 6 _ covers6 fun t hf y => ?_
  have hL := left_eq m c 6 rfl rfl t _ hf (hX t t.isLt hf)
  rw [Pipeline.RDat.withAfter_after, Function.update_self, hL, after0_6]
  blk_simp
  refine codesArr_at m c t y _ ?_ ?_ ?_ <;> blk_simp [index6]

/-- The scales' array after the run: it is written back once, when every step has put its rows. -/
theorem arr7 (G : Vec Ideal S48x256 .f32) (h : (rdat m c).ArrAt 7 cfg0.N G) : G = scalesArr m c := by
  obtain ⟨X, hX, hA⟩ := h.emb_eq_of_wholeAt wholeAt7
  have hR : RowsDone m c t0_11 X := (dats m 0 c).toRRel_leaves (fgt := marked) (Rl := Held m c) (w := 7) rfl hX
  funext i
  obtain ⟨q, j, rfl⟩ : ∃ (q : Fin 48) (j : Fin 256), i = ix2 q j := ⟨i 0, i 1, eq_ix2 i⟩
  refine (hA (ix2 q j)).trans ?_
  refine Eq.trans ?_ (hR (stepOf q) q j (by show q.val / 4 ≤ 11; omega) rfl)
  refine congrArg X (funext fun a => ?_)
  fin_cases a <;> rfl

/-- The kernel's run: the three results and the arguments unchanged. -/
theorem run_value : θ_run defs (onTc (τ := τ) (main (F := Ideal))) ⟨m, fun _ => 0, ρ⟩ (fun r => ∀ c : Dev nD,
      r.2.mem ((c.tc : Thread nD τ).loc main_v10_0) = outArr m c
      ∧ r.2.mem ((c.tc : Thread nD τ).loc main_v10_1) = codesArr m c
      ∧ r.2.mem ((c.tc : Thread nD τ).loc main_v10_2) = scalesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨arr5 m c _ ((h.1 c).1 5), arr6 m c _ ((h.1 c).1 6), arr7 m c _ ((h.1 c).1 7),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_main_quiescent m ρ)

end Cert.KernelIdeal.Hand

end
-- ==== Proof.Equation.lean ====
module

public import proofs.«01_k».proof.Proof.Softmax
public import proofs.«01_k».proof.Proof.Arrays

@[expose] public section

/-!
The kernel's three result arrays equal the reference's, from equal arguments whose queries are at
most the largest finite bf16 in magnitude.
-/

set_option maxRecDepth 16384

noncomputable section

namespace Cert.Equation

open Idealize.ShloMosaic Idealize.ShloMosaic.TcCoe Idealize.SL.Sem
open Cert.KernelIdeal Cert.KernelIdeal.Head
open Cert.ReferenceIdeal.Hand (dotOf softRow chunkOf codeOf scaleOf rowOf scoreFrom outFrom)
open Cert.KernelIdeal.Hand (argX argK argKs argV argVs headIn stepOf)

variable (m : (ℓ : Loc nD τ sig) → Buf (Elt Ideal) ℓ) (c : Dev nD)

/-- Head `h` is head `h % 4` of the group of four that its step takes. -/
theorem head_split (h : Fin 48) : h.val = 4 * (stepOf h).val + h.val % 4 := by
  show h.val = 4 * (h.val / 4) + h.val % 4
  omega

/-- The step's grid coordinate is its number. -/
theorem coord_step : ∀ t : Fin grid0.N, (grid0.coords t 0).val = t.val := by decide

/-- The head an index of a step's scales names. -/
theorem head_index (h : Fin 48) (hlt : 4 * (grid0.coords (stepOf h) 0).val + h.val % 4 < 48) :
    (⟨4 * (grid0.coords (stepOf h) 0).val + h.val % 4, hlt⟩ : Fin 48) = h := by
  refine Fin.ext ?_
  show 4 * (grid0.coords (stepOf h) 0).val + h.val % 4 = h.val
  rw [coord_step]
  exact (head_split h).symm

/-- The head's queries. -/
theorem head_x (h : Fin 48) (d : Fin 192) (t : Fin 256) :
    (headIn m c h).x (ix2 d t) = argX m c (ix4 0 t h d) := by
  unfold headIn
  rw [Hand.inputs_x]
  exact Hand.xBlk_apply m c _ _ d t h (head_split h)

/-- The head's keys. -/
theorem head_k (h : Fin 48) (u : Fin 4) (d : Fin 192) (l : Fin 256) :
    (headIn m c h).k u (ix2 d l)
      = argK m c (ix6 0 u ⟨l.val / 128, by omega⟩ ⟨l.val % 128, Nat.mod_lt _ (by decide)⟩ h d) := by
  unfold headIn
  rw [Hand.inputs_k]
  exact Hand.kBlk_apply m c _ u _ _ d _ h (head_split h)

/-- The head's values. -/
theorem head_v (h : Fin 48) (u : Fin 4) (d : Fin 192) (l : Fin 256) :
    (headIn m c h).v u (ix2 d l)
      = argV m c (ix6 0 u ⟨l.val / 128, by omega⟩ ⟨l.val % 128, Nat.mod_lt _ (by decide)⟩ h d) := by
  unfold headIn
  rw [Hand.inputs_v]
  exact Hand.vBlk_apply m c _ u _ _ d _ h (head_split h)

/-- The head's key scales times the folded constant. -/
theorem head_kn (h : Fin 48) (u : Fin 4) (l : Fin 256) :
    (headIn m c h).kn u (ix2 0 l)
      = argKs m c (ix5 0 u ⟨l.val / 128, by omega⟩ ⟨l.val % 128, Nat.mod_lt _ (by decide)⟩ h)
        * Named.named (F := Ideal) κ "scale_log2e" (φ := .f32) 0x3DD53B95#32 := by
  unfold headIn
  rw [Hand.inputs_kn, Hand.ksBlk_apply, head_index]

/-- The head's value scales. -/
theorem head_vs (h : Fin 48) (u : Fin 4) (l : Fin 256) :
    (headIn m c h).vs u (ix2 0 l)
      = argVs m c (ix5 0 u ⟨l.val / 128, by omega⟩ ⟨l.val % 128, Nat.mod_lt _ (by decide)⟩ h) := by
  unfold headIn
  rw [Hand.inputs_vs, Hand.vsBlk_apply, head_index]

/-- The folded constant. -/
theorem const_eq : (Named.named (F := Ideal) κ "scale_log2e" (φ := .f32) 0x3DD53B95#32 : EReal)
    = (((Real.sqrt 192)⁻¹ * (Real.log 2)⁻¹ : ℝ) : EReal) := rfl

/-- The reference's divisor. -/
theorem sqrt_const : Ideal.sqrt (Ideal.ofBits .f32 0x43400000#32) = ((Real.sqrt 192 : ℝ) : EReal) := by
  have : Ideal.ofBits .f32 0x43400000#32 = ((192 : ℝ) : EReal) := by
    simp [Ideal.ofBits, Ideal.ieee, -EReal.coe_mul]
    norm_num
  rw [this, Ideal.sqrt_coe]
  norm_num

/-- A score with the constant folded in is the score over the square root, scaled. -/
theorem score_scaled (p qs ks : EReal) :
    p * (ks * (((Real.sqrt 192)⁻¹ * (Real.log 2)⁻¹ : ℝ) : EReal)) * qs
      = Ideal.div (p * qs * ks) (Ideal.sqrt (Ideal.ofBits .f32 0x43400000#32))
        * (Cert.Softmax.invLog : EReal) := by
  have h : Real.sqrt 192 ≠ 0 := by positivity
  rw [sqrt_const, Ideal.div_coe h, one_div, EReal.coe_mul]
  unfold Cert.Softmax.invLog
  ac_rfl

/-- What the precondition says of the queries. -/
def Bounded : Prop :=
  ∀ i, FloatOps.absf (F := Ideal) (φ := .f32) (argX m c i) ≤ Cert.Quantiser.bound

variable (hb : Bounded m c)
include hb

/-- The head's scale of a query. -/
theorem head_scale (h : Fin 48) (t : Fin 256) :
    scale (headIn m c h).x (ix2 0 t) = scaleOf (rowOf (argX m c) t h) := by
  rw [Cert.Quantiser.scale_agrees _ t (fun d => by rw [head_x]; exact hb _)]
  exact congrArg scaleOf (funext fun d => head_x m c h d t)

/-- The head's codes of a query. -/
theorem head_code (h : Fin 48) (d : Fin 192) (t : Fin 256) :
    values (headIn m c h).x (ix2 d t) = codeOf (rowOf (argX m c) t h) d := by
  rw [Cert.Quantiser.values_agree _ d t (fun d => by rw [head_x]; exact hb _)]
  exact congrArg (fun x => codeOf x d) (funext fun d => head_x m c h d t)

/-- The head's products of a query and a key. -/
theorem head_dot (h : Fin 48) (u : Fin 4) (t l : Fin 256) :
    dotQK (headIn m c h).x ((headIn m c h).k u) t l
      = dotOf (fun d : Fin 192 => argK m c (ix6 0 u ⟨l.val / 128, by omega⟩ ⟨l.val % 128, Nat.mod_lt _ (by decide)⟩ h d))
          (codeOf (rowOf (argX m c) t h)) := by
  unfold dotQK dotOf
  refine Finset.sum_congr rfl fun d _ => ?_
  rw [head_code m c hb, head_k]
  exact mul_comm _ _

/-- The head's probabilities, times the value scales. -/
theorem head_p (h : Fin 48) (u : Fin 4) (t l : Fin 256) :
    pOf (headIn m c h) t u l
      = softRow (fun l => scoreFrom (argX m c) (argK m c) (argKs m c) t u h l) l
        * argVs m c (ix5 0 u ⟨l.val / 128, by omega⟩ ⟨l.val % 128, Nat.mod_lt _ (by decide)⟩ h) := by
  unfold pOf
  rw [head_vs, ← Cert.Softmax.row_scaled]
  refine congrArg (fun w => row w l * _) (funext fun l => ?_)
  rw [head_dot m c hb, head_kn, head_scale m c hb, const_eq, score_scaled]
  rfl

/-- The output. -/
theorem out_agrees (h : Fin 48) (t : Fin 256) (d : Fin 192) :
    headOut (headIn m c h) t d
      = outFrom (argX m c) (argK m c) (argKs m c) (argV m c) (argVs m c) t h d := by
  unfold headOut outFrom
  by_cases ht : t.val < 63
  · rw [if_pos ht, if_pos ht]
  · rw [if_neg ht, if_neg ht]
    unfold dotOf
    refine Finset.sum_congr rfl fun l _ => ?_
    rw [head_p m c hb, head_v]
    exact mul_comm _ _

end Cert.Equation
end
-- ==== Proof.Results.lean ====
module

public import proofs.«01_k».proof.Defs
public import proofs.«01_k».proof.Proof.Equation
public import proofs.«01_k».proof.Proof.Gen.Pre_finite
public import Idealize.ShloMosaic.Lib.ReduceAll

@[expose] public section

/-!
The algebraic claim: under the precondition, the kernel's three result arrays and the reference's
are the same arrays of extended reals.
-/

set_option maxRecDepth 16384

noncomputable section

namespace Cert.Results

open Idealize.ShloMosaic Idealize.ShloMosaic.TcCoe Idealize.SL.Sem
open Cert.Equation

local instance : Cert.Pre_finite.Facts := Cert.Pre_finite.Gen.facts

/-- The precondition bounds every entry of the queries. -/
theorem bounded (m : (ℓ : Loc Cert.KernelIdeal.nD Cert.KernelIdeal.τ Cert.KernelIdeal.sig) → Buf (Elt Ideal) ℓ)
    (h : Cert.Pre_KernelIdeal_finite m) (c : Dev Cert.KernelIdeal.nD) : Bounded m c := by
  intro i
  have h1 := congrFun (h c) ix0
  unfold Cert.Pre_finite.fn at h1
  haveI : Subsingleton (Cert.Pre_finite.S_).Idx := ⟨fun a b => funext fun k => k.elim0⟩
  have h2 := Host.reduce_andi_all _ _ _ _ ix0 h1 i
  by_contra hc
  have h3 : BitVec.ofBool (decide (FloatOps.absf (F := Ideal) (φ := .f32) (Cert.KernelIdeal.Hand.argX m c i)
      ≤ Cert.Quantiser.bound)) = 1#1 := h2
  rw [decide_eq_false hc] at h3
  exact absurd h3 (by decide)

/-- The reference's arguments and the kernel's, on one device, are the same arrays. -/
def SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  Cert.ReferenceIdeal.Hand.argX m' c = Cert.KernelIdeal.Hand.argX m c
  ∧ Cert.ReferenceIdeal.Hand.argK m' c = Cert.KernelIdeal.Hand.argK m c
  ∧ Cert.ReferenceIdeal.Hand.argKs m' c = Cert.KernelIdeal.Hand.argKs m c
  ∧ Cert.ReferenceIdeal.Hand.argV m' c = Cert.KernelIdeal.Hand.argV m c
  ∧ Cert.ReferenceIdeal.Hand.argVs m' c = Cert.KernelIdeal.Hand.argVs m c

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hb : Bounded m c) (hs : SameArgs m m' c)
include hb hs

/-- The outputs are equal. -/
theorem out_eq : Cert.ReferenceIdeal.Hand.outArr m' c = Cert.KernelIdeal.Hand.outArr m c := by
  obtain ⟨h0, h1, h2, h3, h4⟩ := hs
  funext i
  unfold Cert.ReferenceIdeal.Hand.outArr Cert.KernelIdeal.Hand.outArr
  rw [h0, h1, h2, h3, h4]
  exact (out_agrees m c hb _ _ _).symm

/-- The codes are equal. -/
theorem codes_eq : Cert.ReferenceIdeal.Hand.codesArr m' c = Cert.KernelIdeal.Hand.codesArr m c := by
  obtain ⟨h0, -⟩ := hs
  funext i
  unfold Cert.ReferenceIdeal.Hand.codesArr Cert.KernelIdeal.Hand.codesArr
  rw [h0]
  exact (head_code m c hb _ _ _).symm

/-- The scales are equal. -/
theorem scales_eq : Cert.ReferenceIdeal.Hand.scalesArr m' c = Cert.KernelIdeal.Hand.scalesArr m c := by
  obtain ⟨h0, -⟩ := hs
  funext i
  unfold Cert.ReferenceIdeal.Hand.scalesArr Cert.KernelIdeal.Hand.scalesArr
  rw [h0]
  exact (head_scale m c hb _ _).symm

omit hb hs in
/-- Under the precondition, from equal arguments, the kernel and the reference both run and end with
equal results and unchanged arguments. -/
theorem algebraic : Cert.algebraic_KernelIdeal_ReferenceIdeal_pre_finite
    (hKernelIdeal := Cert.KernelIdeal.Gen.facts) (hReferenceIdeal := Cert.ReferenceIdeal.Gen.facts)
    (hPre_finite := Cert.Pre_finite.Gen.facts) := by
  intro m g m' g' hp ha
  have hb := fun c => bounded m hp c
  have hs : ∀ c, SameArgs m m' c := ha
  refine ⟨fun c => Cert.KernelIdeal.Hand.outArr m c, fun c => Cert.KernelIdeal.Hand.codesArr m c,
    fun c => Cert.KernelIdeal.Hand.scalesArr m c, Cert.KernelIdeal.Hand.run_value m g, ?_⟩
  refine (θ_run Cert.ReferenceIdeal.defs _ _).mono (fun _ h c => ?_)
    (Cert.ReferenceIdeal.Hand.run_value m' g')
  obtain ⟨r0, r1, r2, r3⟩ := h c
  exact ⟨r0.trans (out_eq m m' c (hb c) (hs c)), r1.trans (codes_eq m m' c (hb c) (hs c)),
    r2.trans (scales_eq m m' c (hb c) (hs c)), r3⟩

end Cert.Results
end
-- ==== Proof.lean ====
/- The assembly: every claim about the kernel, its idealization and the reference. -/
module

public import proofs.«01_k».proof.Defs
public import proofs.«01_k».proof.Proof.Frame
public import proofs.«01_k».proof.Proof.KernelFrame
public import proofs.«01_k».proof.Proof.Results
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The named constant of the idealized kernel is `(√192)⁻¹ · (log 2)⁻¹`. -/
theorem preserves : Cert.preserves_Kernel_KernelIdeal :=
  IdealRules.named_const.statement Cert.KernelIdeal.κ "scale_log2e" .f32 0x3DD53B95#32
    (((Real.sqrt 192)⁻¹ * (Real.log 2)⁻¹ : ℝ) : EReal) rfl

/-- The kernel and its idealization terminate, keep their arguments and leave every semaphore at
zero, as does the reference; the idealization changes nothing but the named constant; and over the
extended reals the kernel and the reference compute the same output, codes and scales. -/
theorem claim : Cert.Claim :=
  ⟨Cert.Kernel.Gen.facts, Cert.KernelIdeal.Gen.facts, Cert.ReferenceIdeal.Gen.facts,
    Cert.Pre_finite.Gen.facts,
    fun m g _ => Cert.Kernel.Hand.frame m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    preserves,
    Cert.Results.algebraic⟩

end Cert.Proof

end
